-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x100 : Shape := ⟨2, ![4096, 100]⟩
abbrev S228x256 : Shape := ⟨2, ![228, 256]⟩
abbrev S256 : Shape := ⟨1, ![256]⟩
abbrev S256x256 : Shape := ⟨2, ![256, 256]⟩
abbrev S20x256x1 : Shape := ⟨3, ![20, 256, 1]⟩
abbrev S20x1 : Shape := ⟨2, ![20, 1]⟩
abbrev S20x256x10 : Shape := ⟨3, ![20, 256, 10]⟩
abbrev S20x10 : Shape := ⟨2, ![20, 10]⟩
abbrev S10x256x10 : Shape := ⟨3, ![10, 256, 10]⟩
abbrev S10x10 : Shape := ⟨2, ![10, 10]⟩
abbrev S2560x256 : Shape := ⟨2, ![2560, 256]⟩
abbrev S256x1 : Shape := ⟨2, ![256, 1]⟩
abbrev S1 : Shape := ⟨1, ![1]⟩
abbrev S20x4096x10 : Shape := ⟨3, ![20, 4096, 10]⟩
abbrev S10x4096x10 : Shape := ⟨3, ![10, 4096, 10]⟩
abbrev S340x320 : Shape := ⟨2, ![340, 320]⟩
abbrev S20x256 : Shape := ⟨2, ![20, 256]⟩
abbrev S256x20 : Shape := ⟨2, ![256, 20]⟩
abbrev S256x10x20 : Shape := ⟨3, ![256, 10, 20]⟩
abbrev S256x10x10 : Shape := ⟨3, ![256, 10, 10]⟩
abbrev S_ : Shape := ⟨0, ![]⟩
abbrev S256x10x2 : Shape := ⟨3, ![256, 10, 2]⟩
abbrev S256x10x32 : Shape := ⟨3, ![256, 10, 32]⟩
abbrev S256x320 : Shape := ⟨2, ![256, 320]⟩
abbrev S256x340 : Shape := ⟨2, ![256, 340]⟩
abbrev S10x20 : Shape := ⟨2, ![10, 20]⟩
abbrev S10x2 : Shape := ⟨2, ![10, 2]⟩
abbrev S10x32 : Shape := ⟨2, ![10, 32]⟩
abbrev S320 : Shape := ⟨1, ![320]⟩
abbrev S20 : Shape := ⟨1, ![20]⟩
abbrev S340 : Shape := ⟨1, ![340]⟩
abbrev S1x340 : Shape := ⟨2, ![1, 340]⟩
abbrev S4096x10x20 : Shape := ⟨3, ![4096, 10, 20]⟩
abbrev S4096x10x10 : Shape := ⟨3, ![4096, 10, 10]⟩
abbrev S4096x10x2 : Shape := ⟨3, ![4096, 10, 2]⟩
abbrev S4096x10x32 : Shape := ⟨3, ![4096, 10, 32]⟩
abbrev S4096x320 : Shape := ⟨2, ![4096, 320]⟩
abbrev S255 : Shape := ⟨1, ![255]⟩
abbrev S1x256 : Shape := ⟨2, ![1, 256]⟩
abbrev S9x256 : Shape := ⟨2, ![9, 256]⟩
abbrev S512x1 : Shape := ⟨2, ![512, 1]⟩
abbrev S2048x128 : Shape := ⟨2, ![2048, 128]⟩
abbrev S2048x100 : Shape := ⟨2, ![2048, 100]⟩
abbrev S2048x320 : Shape := ⟨2, ![2048, 320]⟩
abbrev S128x256 : Shape := ⟨2, ![128, 256]⟩
abbrev S2048x256 : Shape := ⟨2, ![2048, 256]⟩
abbrev S100x256 : Shape := ⟨2, ![100, 256]⟩
abbrev S2048x340 : Shape := ⟨2, ![2048, 340]⟩
abbrev S2048x20 : Shape := ⟨2, ![2048, 20]⟩
abbrev S2048x32 : Shape := ⟨2, ![2048, 32]⟩
abbrev S256x8x320 : Shape := ⟨3, ![256, 8, 320]⟩
abbrev S256x1x320 : Shape := ⟨3, ![256, 1, 320]⟩
abbrev S320x256 : Shape := ⟨2, ![320, 256]⟩
abbrev S1x1 : Shape := ⟨2, ![1, 1]⟩

abbrev nBuf : Space → Nat
  | .hbm => 84
  | .vmem => 19
  | .smem => 0
  | _ => 0

abbrev bufTy : (tb : Table) → Fin (tcTables nBuf tb) → BufTy
  | .hbm, ⟨0, _⟩ => ⟨S4096x128, .f32⟩
  | .hbm, ⟨1, _⟩ => ⟨S4096x100, .f32⟩
  | .hbm, ⟨2, _⟩ => ⟨S228x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S20x256x1, .f32⟩
  | .hbm, ⟨11, _⟩ => ⟨S20x1, .f32⟩
  | .hbm, ⟨12, _⟩ => ⟨S20x256x10, .f32⟩
  | .hbm, ⟨13, _⟩ => ⟨S20x10, .f32⟩
  | .hbm, ⟨14, _⟩ => ⟨S10x256x10, .f32⟩
  | .hbm, ⟨15, _⟩ => ⟨S10x10, .f32⟩
  | .hbm, ⟨16, _⟩ => ⟨S2560x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256x1, .f32⟩
  | .hbm, ⟨21, _⟩ => ⟨S1, .f32⟩
  | .hbm, ⟨22, _⟩ => ⟨S20x4096x10, .f32⟩
  | .hbm, ⟨23, _⟩ => ⟨S10x4096x10, .f32⟩
  | .hbm, ⟨24, _⟩ => ⟨S340x320, .f32⟩
  | .hbm, ⟨25, _⟩ => ⟨S20x256, .f32⟩
  | .hbm, ⟨26, _⟩ => ⟨S256x20, .f32⟩
  | .hbm, ⟨27, _⟩ => ⟨S256x10x20, .f32⟩
  | .hbm, ⟨28, _⟩ => ⟨S256x10x10, .f32⟩
  | .hbm, ⟨29, _⟩ => ⟨S_, .f32⟩
  | .hbm, ⟨30, _⟩ => ⟨S256x10x2, .f32⟩
  | .hbm, ⟨31, _⟩ => ⟨S256x10x32, .f32⟩
  | .hbm, ⟨32, _⟩ => ⟨S256x320, .f32⟩
  | .hbm, ⟨33, _⟩ => ⟨S256x340, .f32⟩
  | .hbm, ⟨34, _⟩ => ⟨S10x20, .f32⟩
  | .hbm, ⟨35, _⟩ => ⟨S10x10, .f32⟩
  | .hbm, ⟨36, _⟩ => ⟨S_, .f32⟩
  | .hbm, ⟨37, _⟩ => ⟨S10x2, .f32⟩
  | .hbm, ⟨38, _⟩ => ⟨S10x32, .f32⟩
  | .hbm, ⟨39, _⟩ => ⟨S320, .f32⟩
  | .hbm, ⟨40, _⟩ => ⟨S20, .f32⟩
  | .hbm, ⟨41, _⟩ => ⟨S340, .f32⟩
  | .hbm, ⟨42, _⟩ => ⟨S1x340, .f32⟩
  | .hbm, ⟨43, _⟩ => ⟨S_, .f32⟩
  | .hbm, ⟨44, _⟩ => ⟨S20x4096x10, .f32⟩
  | .hbm, ⟨45, _⟩ => ⟨S20x4096x10, .f32⟩
  | .hbm, ⟨46, _⟩ => ⟨S20x4096x10, .f32⟩
  | .hbm, ⟨47, _⟩ => ⟨S20x4096x10, .f32⟩
  | .hbm, ⟨48, _⟩ => ⟨S_, .f32⟩
  | .hbm, ⟨49, _⟩ => ⟨S20x4096x10, .f32⟩
  | .hbm, ⟨50, _⟩ => ⟨S20x4096x10, .f32⟩
  | .hbm, ⟨51, _⟩ => ⟨S20x4096x10, .f32⟩
  | .hbm, ⟨52, _⟩ => ⟨S20x4096x10, .f32⟩
  | .hbm, ⟨53, _⟩ => ⟨S_, .f32⟩
  | .hbm, ⟨54, _⟩ => ⟨S10x4096x10, .f32⟩
  | .hbm, ⟨55, _⟩ => ⟨S10x4096x10, .f32⟩
  | .hbm, ⟨56, _⟩ => ⟨S10x4096x10, .f32⟩
  | .hbm, ⟨57, _⟩ => ⟨S10x4096x10, .f32⟩
  | .hbm, ⟨58, _⟩ => ⟨S_, .f32⟩
  | .hbm, ⟨59, _⟩ => ⟨S10x4096x10, .f32⟩
  | .hbm, ⟨60, _⟩ => ⟨S10x4096x10, .f32⟩
  | .hbm, ⟨61, _⟩ => ⟨S10x4096x10, .f32⟩
  | .hbm, ⟨62, _⟩ => ⟨S10x4096x10, .f32⟩
  | .hbm, ⟨63, _⟩ => ⟨S4096x10x20, .f32⟩
  | .hbm, ⟨64, _⟩ => ⟨S4096x10x10, .f32⟩
  | .hbm, ⟨65, _⟩ => ⟨S_, .f32⟩
  | .hbm, ⟨66, _⟩ => ⟨S4096x10x2, .f32⟩
  | .hbm, ⟨67, _⟩ => ⟨S4096x10x32, .f32⟩
  | .hbm, ⟨68, _⟩ => ⟨S4096x320, .f32⟩
  | .hbm, ⟨69, _⟩ => ⟨S_, .f32⟩
  | .hbm, ⟨70, _⟩ => ⟨S255, .f32⟩
  | .hbm, ⟨71, _⟩ => ⟨S256, .f32⟩
  | .hbm, ⟨72, _⟩ => ⟨S1x256, .f32⟩
  | .hbm, ⟨73, _⟩ => ⟨S1x256, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S1x256, .f32⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S9x256, .f32⟩
  | .hbm, ⟨82, _⟩ => ⟨S4096x320, .f32⟩
  | .hbm, ⟨83, _⟩ => ⟨S512x1, .f32⟩
  | .local _ .vmem, ⟨0, _⟩ => ⟨S2048x128, .f32⟩
  | .local _ .vmem, ⟨1, _⟩ => ⟨S2048x128, .f32⟩
  | .local _ .vmem, ⟨2, _⟩ => ⟨S2048x100, .f32⟩
  | .local _ .vmem, ⟨3, _⟩ => ⟨S2048x100, .f32⟩
  | .local _ .vmem, ⟨4, _⟩ => ⟨S228x256, .f32⟩
  | .local _ .vmem, ⟨5, _⟩ => ⟨S9x256, .f32⟩
  | .local _ .vmem, ⟨6, _⟩ => ⟨S256x256, .f32⟩
  | .local _ .vmem, ⟨7, _⟩ => ⟨S256x340, .f32⟩
  | .local _ .vmem, ⟨8, _⟩ => ⟨S1x340, .f32⟩
  | .local _ .vmem, ⟨9, _⟩ => ⟨S2048x320, .f32⟩
  | .local _ .vmem, ⟨10, _⟩ => ⟨S2048x320, .f32⟩
  | .local _ .vmem, ⟨11, _⟩ => ⟨S340x320, .f32⟩
  | .local _ .vmem, ⟨12, _⟩ => ⟨S2560x256, .f32⟩
  | .local _ .vmem, ⟨13, _⟩ => ⟨S256x256, .f32⟩
  | .local _ .vmem, ⟨14, _⟩ => ⟨S256x1, .f32⟩
  | .local _ .vmem, ⟨15, _⟩ => ⟨S2048x320, .f32⟩
  | .local _ .vmem, ⟨16, _⟩ => ⟨S2048x320, .f32⟩
  | .local _ .vmem, ⟨17, _⟩ => ⟨S256x1, .f32⟩
  | .local _ .vmem, ⟨18, _⟩ => ⟨S256x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst_0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_1 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_5 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_6 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_7 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49_0 : Ref sig .tc := ⟨.hbm, 82, rfl⟩
abbrev main_v49_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S228x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x340 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x340 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S340x320 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2560x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x320 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4096x128 : Shape := ⟨2, ![4096, 128]⟩
abbrev S4096x100 : Shape := ⟨2, ![4096, 100]⟩
abbrev S228x256 : Shape := ⟨2, ![228, 256]⟩
abbrev S256 : Shape := ⟨1, ![256]⟩
abbrev S256x256 : Shape := ⟨2, ![256, 256]⟩
abbrev S20x256x1 : Shape := ⟨3, ![20, 256, 1]⟩
abbrev S20x1 : Shape := ⟨2, ![20, 1]⟩
abbrev S20x256x10 : Shape := ⟨3, ![20, 256, 10]⟩
abbrev S20x10 : Shape := ⟨2, ![20, 10]⟩
abbrev S10x256x10 : Shape := ⟨3, ![10, 256, 10]⟩
abbrev S10x10 : Shape := ⟨2, ![10, 10]⟩
abbrev S2560x256 : Shape := ⟨2, ![2560, 256]⟩
abbrev S256x1 : Shape := ⟨2, ![256, 1]⟩
abbrev S1 : Shape := ⟨1, ![1]⟩
abbrev S20x4096x10 : Shape := ⟨3, ![20, 4096, 10]⟩
abbrev S10x4096x10 : Shape := ⟨3, ![10, 4096, 10]⟩
abbrev S4096x228 : Shape := ⟨2, ![4096, 228]⟩
abbrev S4096x256 : Shape := ⟨2, ![4096, 256]⟩
abbrev S1x256 : Shape := ⟨2, ![1, 256]⟩
abbrev S_ : Shape := ⟨0, ![]⟩
abbrev S4096x20x1 : Shape := ⟨3, ![4096, 20, 1]⟩
abbrev S1x20x1 : Shape := ⟨3, ![1, 20, 1]⟩
abbrev S4096x20x10 : Shape := ⟨3, ![4096, 20, 10]⟩
abbrev S1x20x10 : Shape := ⟨3, ![1, 20, 10]⟩
abbrev S4096x20 : Shape := ⟨2, ![4096, 20]⟩
abbrev S4096x10x10 : Shape := ⟨3, ![4096, 10, 10]⟩
abbrev S1x10x10 : Shape := ⟨3, ![1, 10, 10]⟩
abbrev S4096x10 : Shape := ⟨2, ![4096, 10]⟩
abbrev S4096x10x1 : Shape := ⟨3, ![4096, 10, 1]⟩
abbrev S4096x20x11 : Shape := ⟨3, ![4096, 20, 11]⟩
abbrev S4096x220 : Shape := ⟨2, ![4096, 220]⟩
abbrev S4096x320 : Shape := ⟨2, ![4096, 320]⟩
abbrev S512x2560 : Shape := ⟨2, ![512, 2560]⟩
abbrev S512x256 : Shape := ⟨2, ![512, 256]⟩
abbrev S512x1 : Shape := ⟨2, ![512, 1]⟩
abbrev S1x1 : Shape := ⟨2, ![1, 1]⟩

abbrev nBuf : Space → Nat
  | .hbm => 181
  | .vmem => 0
  | .smem => 0
  | _ => 0

abbrev hbmTy0_0 (i : Nat) : BufTy := match i % 128 with
  | 0 => ⟨S4096x128, .f32⟩
  | 1 => ⟨S4096x100, .f32⟩
  | 2 => ⟨S228x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S20x256x1, .f32⟩
  | 11 => ⟨S20x1, .f32⟩
  | 12 => ⟨S20x256x10, .f32⟩
  | 13 => ⟨S20x10, .f32⟩
  | 14 => ⟨S10x256x10, .f32⟩
  | 15 => ⟨S10x10, .f32⟩
  | 16 => ⟨S2560x256, .f32⟩
  | 17 => ⟨S256, .f32⟩
  | 18 => ⟨S256x256, .f32⟩
  | 19 => ⟨S256, .f32⟩
  | 20 => ⟨S256x1, .f32⟩
  | 21 => ⟨S1, .f32⟩
  | 22 => ⟨S20x4096x10, .f32⟩
  | 23 => ⟨S10x4096x10, .f32⟩
  | 24 => ⟨S4096x228, .f32⟩
  | 25 => ⟨S4096x256, .f32⟩
  | 26 => ⟨S1x256, .f32⟩
  | 27 => ⟨S4096x256, .f32⟩
  | 28 => ⟨S4096x256, .f32⟩
  | 29 => ⟨S_, .f32⟩
  | 30 => ⟨S_, .f32⟩
  | 31 => ⟨S_, .f32⟩
  | 32 => ⟨S4096x256, .f32⟩
  | 33 => ⟨S4096x256, .f32⟩
  | 34 => ⟨S1x256, .f32⟩
  | 35 => ⟨S4096x256, .f32⟩
  | 36 => ⟨S4096x256, .f32⟩
  | 37 => ⟨S1x256, .f32⟩
  | 38 => ⟨S4096x256, .f32⟩
  | 39 => ⟨S4096x256, .f32⟩
  | 40 => ⟨S_, .f32⟩
  | 41 => ⟨S4096x256, .f32⟩
  | 42 => ⟨S4096x256, .f32⟩
  | 43 => ⟨S4096x256, .f32⟩
  | 44 => ⟨S1x256, .f32⟩
  | 45 => ⟨S4096x256, .f32⟩
  | 46 => ⟨S4096x256, .f32⟩
  | 47 => ⟨S_, .f32⟩
  | 48 => ⟨S_, .f32⟩
  | 49 => ⟨S_, .f32⟩
  | 50 => ⟨S4096x256, .f32⟩
  | 51 => ⟨S4096x256, .f32⟩
  | 52 => ⟨S1x256, .f32⟩
  | 53 => ⟨S4096x256, .f32⟩
  | 54 => ⟨S4096x256, .f32⟩
  | 55 => ⟨S1x256, .f32⟩
  | 56 => ⟨S4096x256, .f32⟩
  | 57 => ⟨S4096x256, .f32⟩
  | 58 => ⟨S_, .f32⟩
  | 59 => ⟨S4096x256, .f32⟩
  | 60 => ⟨S4096x256, .f32⟩
  | 61 => ⟨S4096x20x1, .f32⟩
  | 62 => ⟨S1x20x1, .f32⟩
  | 63 => ⟨S4096x20x1, .f32⟩
  | 64 => ⟨S4096x20x1, .f32⟩
  | 65 => ⟨S4096x20x1, .f32⟩
  | 66 => ⟨S4096x20x10, .f32⟩
  | 67 => ⟨S1x20x10, .f32⟩
  | 68 => ⟨S4096x20x10, .f32⟩
  | 69 => ⟨S4096x20x10, .f32⟩
  | 70 => ⟨S_, .f32⟩
  | 71 => ⟨S20x4096x10, .f32⟩
  | 72 => ⟨S20x4096x10, .f32⟩
  | 73 => ⟨S20x4096x10, .f32⟩
  | 74 => ⟨S20x4096x10, .f32⟩
  | 75 => ⟨S_, .f32⟩
  | 76 => ⟨S20x4096x10, .f32⟩
  | 77 => ⟨S20x4096x10, .f32⟩
  | 78 => ⟨S20x4096x10, .f32⟩
  | 79 => ⟨S20x4096x10, .f32⟩
  | 80 => ⟨S4096x20x10, .f32⟩
  | 81 => ⟨S4096x20x10, .f32⟩
  | 82 => ⟨S_, .f32⟩
  | 83 => ⟨S4096x20x10, .f32⟩
  | 84 => ⟨S4096x20x10, .f32⟩
  | 85 => ⟨S_, .f32⟩
  | 86 => ⟨S4096x20, .f32⟩
  | 87 => ⟨S_, .f32⟩
  | 88 => ⟨S4096x20, .f32⟩
  | 89 => ⟨S4096x20, .f32⟩
  | 90 => ⟨S4096x20x1, .f32⟩
  | 91 => ⟨S4096x20x10, .f32⟩
  | 92 => ⟨S4096x20x10, .f32⟩
  | 93 => ⟨S4096x20x10, .f32⟩
  | 94 => ⟨S_, .f32⟩
  | 95 => ⟨S4096x20, .f32⟩
  | 96 => ⟨S4096x20x1, .f32⟩
  | 97 => ⟨S4096x20x10, .f32⟩
  | 98 => ⟨S4096x20x10, .f32⟩
  | 99 => ⟨S_, .f32⟩
  | 100 => ⟨S4096x20, .f32⟩
  | 101 => ⟨S4096x20x1, .f32⟩
  | 102 => ⟨S4096x20x10, .f32⟩
  | 103 => ⟨S4096x20x10, .i1⟩
  | 104 => ⟨S4096x20x10, .f32⟩
  | 105 => ⟨S4096x20x10, .f32⟩
  | 106 => ⟨S4096x20x10, .f32⟩
  | 107 => ⟨S4096x10x10, .f32⟩
  | 108 => ⟨S1x10x10, .f32⟩
  | 109 => ⟨S4096x10x10, .f32⟩
  | 110 => ⟨S4096x10x10, .f32⟩
  | 111 => ⟨S_, .f32⟩
  | 112 => ⟨S10x4096x10, .f32⟩
  | 113 => ⟨S10x4096x10, .f32⟩
  | 114 => ⟨S10x4096x10, .f32⟩
  | 115 => ⟨S10x4096x10, .f32⟩
  | 116 => ⟨S_, .f32⟩
  | 117 => ⟨S10x4096x10, .f32⟩
  | 118 => ⟨S10x4096x10, .f32⟩
  | 119 => ⟨S10x4096x10, .f32⟩
  | 120 => ⟨S10x4096x10, .f32⟩
  | 121 => ⟨S4096x10x10, .f32⟩
  | 122 => ⟨S4096x10x10, .f32⟩
  | 123 => ⟨S_, .f32⟩
  | 124 => ⟨S4096x10x10, .f32⟩
  | 125 => ⟨S4096x10x10, .f32⟩
  | 126 => ⟨S_, .f32⟩
  | 127 => ⟨S4096x10, .f32⟩
  | _ => ⟨S4096x128, .f32⟩

abbrev hbmTy0_1 (i : Nat) : BufTy := match i % 128 with
  | 0 => ⟨S_, .f32⟩
  | 1 => ⟨S4096x10, .f32⟩
  | 2 => ⟨S4096x10, .f32⟩
  | 3 => ⟨S4096x10x1, .f32⟩
  | 4 => ⟨S4096x10x10, .f32⟩
  | 5 => ⟨S4096x10x10, .f32⟩
  | 6 => ⟨S4096x10x10, .f32⟩
  | 7 => ⟨S_, .f32⟩
  | 8 => ⟨S4096x10, .f32⟩
  | 9 => ⟨S4096x10x1, .f32⟩
  | 10 => ⟨S4096x10x10, .f32⟩
  | 11 => ⟨S4096x10x10, .f32⟩
  | 12 => ⟨S_, .f32⟩
  | 13 => ⟨S4096x10, .f32⟩
  | 14 => ⟨S4096x10x1, .f32⟩
  | 15 => ⟨S4096x10x10, .f32⟩
  | 16 => ⟨S4096x10x10, .i1⟩
  | 17 => ⟨S4096x10x10, .f32⟩
  | 18 => ⟨S4096x10x10, .f32⟩
  | 19 => ⟨S4096x10x10, .f32⟩
  | 20 => ⟨S4096x20x11, .f32⟩
  | 21 => ⟨S4096x220, .f32⟩
  | 22 => ⟨S4096x100, .f32⟩
  | 23 => ⟨S4096x320, .f32⟩
  | 24 => ⟨S512x2560, .f32⟩
  | 25 => ⟨S512x256, .f32⟩
  | 26 => ⟨S1x256, .f32⟩
  | 27 => ⟨S512x256, .f32⟩
  | 28 => ⟨S512x256, .f32⟩
  | 29 => ⟨S_, .f32⟩
  | 30 => ⟨S_, .f32⟩
  | 31 => ⟨S512x256, .f32⟩
  | 32 => ⟨S512x256, .i1⟩
  | 33 => ⟨S_, .f32⟩
  | 34 => ⟨S512x256, .f32⟩
  | 35 => ⟨S512x256, .f32⟩
  | 36 => ⟨S512x256, .f32⟩
  | 37 => ⟨S512x256, .f32⟩
  | 38 => ⟨S1x256, .f32⟩
  | 39 => ⟨S512x256, .f32⟩
  | 40 => ⟨S512x256, .f32⟩
  | 41 => ⟨S_, .f32⟩
  | 42 => ⟨S_, .f32⟩
  | 43 => ⟨S512x256, .f32⟩
  | 44 => ⟨S512x256, .i1⟩
  | 45 => ⟨S_, .f32⟩
  | 46 => ⟨S512x256, .f32⟩
  | 47 => ⟨S512x256, .f32⟩
  | 48 => ⟨S512x256, .f32⟩
  | 49 => ⟨S512x1, .f32⟩
  | 50 => ⟨S1x1, .f32⟩
  | 51 => ⟨S512x1, .f32⟩
  | 52 => ⟨S512x1, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_call0_cst : Ref sig .tc := ⟨.hbm, 40, rfl⟩
abbrev main_call0_v0 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_0 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call1_cst : Ref sig .tc := ⟨.hbm, 58, rfl⟩
abbrev main_call1_v0 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_1 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_2 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_3 : Ref sig .tc := ⟨.hbm, 82, rfl⟩
abbrev main_v50 : Ref sig .tc := ⟨.hbm, 83, rfl⟩
abbrev main_v51 : Ref sig .tc := ⟨.hbm, 84, rfl⟩
abbrev main_cst_4 : Ref sig .tc := ⟨.hbm, 85, rfl⟩
abbrev main_v52 : Ref sig .tc := ⟨.hbm, 86, rfl⟩
abbrev main_cst_5 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_6 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_7 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_8 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_9 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_10 : Ref sig .tc := ⟨.hbm, 123, rfl⟩
abbrev main_v84 : Ref sig .tc := ⟨.hbm, 124, rfl⟩
abbrev main_v85 : Ref sig .tc := ⟨.hbm, 125, rfl⟩
abbrev main_cst_11 : Ref sig .tc := ⟨.hbm, 126, rfl⟩
abbrev main_v86 : Ref sig .tc := ⟨.hbm, 127, rfl⟩
abbrev main_cst_12 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_13 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_14 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_15 : Ref sig .tc := ⟨.hbm, 157, rfl⟩
abbrev main_call2_cst : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_16 : Ref sig .tc := ⟨.hbm, 169, rfl⟩
abbrev main_call3_cst : Ref sig .tc := ⟨.hbm, 170, rfl⟩
abbrev main_call3_v0 : Ref sig .tc := ⟨.hbm, 171, rfl⟩
abbrev main_call3_v1 : Ref sig .tc := ⟨.hbm, 172, rfl⟩
abbrev main_call3_v2 : Ref sig .tc := ⟨.hbm, 173, rfl⟩
abbrev main_call3_v3 : Ref sig .tc := ⟨.hbm, 174, rfl⟩
abbrev main_call3_v4 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩

abbrev nD : Nat := 1
abbrev τ : Topo := Topo.v7x

variable {F : FTy → Type} [FloatOps F]
-- ==== Proof.Maths.lean ====
module

public import Idealize.ShloMosaic.Lib.Pointwise

@[expose] public section

noncomputable section

/-! The network's mathematics over the extended reals: what each row and each score is, as sums over the
inputs. Both programs are compared with these definitions. -/

namespace Cert.Proof.Maths

open Idealize.ShloMosaic

/-- One plus the batch normalisation's epsilon, as the f32 literal both programs use. -/
abbrev onePlus : EReal := Ideal.ofBits .f32 0x3F8020C5#32
/-- The temperature of the softmax, and the slope of the leaky rectifier. -/
abbrev fifth : EReal := Ideal.ofBits .f32 0x3E4CCCCD#32
/-- The offset inside the logarithms of the Gumbel transform. -/
abbrev tiny : EReal := Ideal.ofBits .f32 0x1E3CE508#32

/-- Normalise, scale, shift, and rectify. -/
def bnRelu (h g be : EReal) : EReal := max (g * Ideal.div h (Ideal.sqrt onePlus) + be) 0

/-- The leaky rectifier. -/
def leaky (s : EReal) : EReal := if 0 ≤ s then s else fifth * s

/-- The Gumbel transform of a uniform draw. -/
def gumbel (u : EReal) : EReal := -Ideal.log (-Ideal.log (u + tiny) + tiny)

/-- The greatest of the ten entries. -/
def top (s : Fin 10 → EReal) : EReal := Finset.univ.fold max ⊥ s

/-- The exponential of an entry less the greatest. -/
def expo (s : Fin 10 → EReal) (m : Fin 10) : EReal := Ideal.exp (s m - top s)

/-- The softmax of ten logits. -/
def soft (s : Fin 10 → EReal) (m : Fin 10) : EReal := Ideal.div (expo s m) (∑ j, expo s j)

/-- The straight-through sample: the indicator of the greatest softmax entry, less the entry, plus the entry. -/
def hot (s : Fin 10 → EReal) (m : Fin 10) : EReal :=
  ((if soft s m = top (soft s) then 1 else 0) - soft s m) + soft s m

/-- The inputs of the network. -/
structure Net where
  z : Fin 4096 → Fin 128 → EReal
  cond : Fin 4096 → Fin 100 → EReal
  W1 : Fin 228 → Fin 256 → EReal
  b1 : Fin 256 → EReal
  g1 : Fin 256 → EReal
  be1 : Fin 256 → EReal
  W2 : Fin 256 → Fin 256 → EReal
  b2 : Fin 256 → EReal
  g2 : Fin 256 → EReal
  be2 : Fin 256 → EReal
  Wa : Fin 20 → Fin 256 → EReal
  ba : Fin 20 → EReal
  Wb : Fin 20 → Fin 256 → Fin 10 → EReal
  bb : Fin 20 → Fin 10 → EReal
  Wd : Fin 10 → Fin 256 → Fin 10 → EReal
  bd : Fin 10 → Fin 10 → EReal
  Wc1 : Fin 2560 → Fin 256 → EReal
  bc1 : Fin 256 → EReal
  Wc2 : Fin 256 → Fin 256 → EReal
  bc2 : Fin 256 → EReal
  Wo : Fin 256 → EReal
  bo : EReal
  gc : Fin 20 → Fin 4096 → Fin 10 → EReal
  gd : Fin 10 → Fin 4096 → Fin 10 → EReal

namespace Net

variable (n : Net)

/-- The generator's first layer. -/
def h1 (b : Fin 4096) (k : Fin 256) : EReal :=
  bnRelu ((∑ j : Fin 128, n.z b j * n.W1 ⟨j, by omega⟩ k) + (∑ j : Fin 100, n.cond b j * n.W1 ⟨128 + j, by omega⟩ k) + n.b1 k)
    (n.g1 k) (n.be1 k)

/-- The generator's second layer. -/
def h2 (b : Fin 4096) (k : Fin 256) : EReal :=
  bnRelu ((∑ j, n.h1 b j * n.W2 j k) + n.b2 k) (n.g2 k) (n.be2 k)

/-- The scalar head of continuous column `g`. -/
def alpha (b : Fin 4096) (g : Fin 20) : EReal := Ideal.tanh ((∑ h, n.h2 b h * n.Wa g h) + n.ba g)

/-- The mode logits of continuous column `g`, noise added, over the temperature. -/
def logitC (b : Fin 4096) (g : Fin 20) (m : Fin 10) : EReal :=
  Ideal.div ((∑ h, n.h2 b h * n.Wb g h m) + n.bb g m + n.gc g b m) fifth

/-- The logits of discrete column `g`, noise added, over the temperature. -/
def logitD (b : Fin 4096) (g : Fin 10) (m : Fin 10) : EReal :=
  Ideal.div ((∑ h, n.h2 b h * n.Wd g h m) + n.bd g m + n.gd g b m) fifth

/-- One generated row: twenty groups of a scalar and ten modes, then ten groups of ten classes. -/
def row (b : Fin 4096) (d : Fin 320) : EReal :=
  if h : d.val < 220 then
    if d.val % 11 = 0 then n.alpha b ⟨d.val / 11, by omega⟩
    else hot (n.logitC b ⟨d.val / 11, by omega⟩) ⟨d.val % 11 - 1, by omega⟩
  else hot (n.logitD b ⟨(d.val - 220) / 10, by omega⟩) ⟨(d.val - 220) % 10, by omega⟩

/-- The critic's first layer, on a pack of eight rows. -/
def c1 (p : Fin 512) (k : Fin 256) : EReal :=
  leaky ((∑ q : Fin 8, ∑ d : Fin 320, n.row ⟨8 * p + q, by omega⟩ d * n.Wc1 ⟨320 * q + d, by omega⟩ k) + n.bc1 k)

/-- The critic's second layer. -/
def c2 (p : Fin 512) (k : Fin 256) : EReal := leaky ((∑ j, n.c1 p j * n.Wc2 j k) + n.bc2 k)

/-- The critic's score of a pack. -/
def score (p : Fin 512) : EReal := (∑ j, n.c2 p j * n.Wo j) + n.bo

end Net

/-! ### Facts about the constants -/

theorem ofBits_negInf : Ideal.ofBits .f32 0xFF800000#32 = ⊥ := by
  simp [Ideal.ofBits, Ideal.ieee]

theorem onePlus_eq : onePlus = ((8396997 * (1 / 8388608) : ℝ) : EReal) := by
  rw [EReal.coe_mul]
  simp [onePlus, Ideal.ofBits, Ideal.ieee]
  norm_num

theorem sqrt_onePlus : ∃ y : ℝ, y ≠ 0 ∧ Ideal.sqrt onePlus = (y : EReal) := by
  refine ⟨Real.sqrt (8396997 * (1 / 8388608)), (Real.sqrt_pos.mpr (by norm_num)).ne', ?_⟩
  rw [onePlus_eq, Ideal.sqrt_coe, if_neg (by norm_num)]

theorem mul_isq (h : EReal) : h * Ideal.div 1 (Ideal.sqrt onePlus) = Ideal.div h (Ideal.sqrt onePlus) := by
  obtain ⟨y, hy, e⟩ := sqrt_onePlus
  rw [e, Ideal.div_coe hy, Ideal.div_coe hy, one_mul]

/-! ### Sums and maxima written out -/

theorem top_chain (s : Fin 10 → EReal) :
    max (max (max (max (max (max (max (max (max (s 0) (s 1)) (s 2)) (s 3)) (s 4)) (s 5)) (s 6)) (s 7)) (s 8)) (s 9) = top s := by
  unfold top
  rw [show (Finset.univ : Finset (Fin 10)) = {9, 8, 7, 6, 5, 4, 3, 2, 1, 0} by decide]
  repeat rw [Finset.fold_insert (by decide)]
  rw [Finset.fold_singleton, max_bot_right]
  simp only [max_comm]

theorem sum_chain (s : Fin 10 → EReal) :
    s 0 + s 1 + s 2 + s 3 + s 4 + s 5 + s 6 + s 7 + s 8 + s 9 = ∑ j, s j := by
  simp [Fin.sum_univ_castSucc]

theorem sum_eight (s : Fin 8 → EReal) :
    s 0 + s 1 + s 2 + s 3 + s 4 + s 5 + s 6 + s 7 = ∑ j, s j := by
  rw [Fin.sum_univ_eight]

/-- A sum over eight runs of 320 is the sum over the 2560. -/
theorem sum_pack (f : Fin 2560 → EReal) :
    ∑ q : Fin 8, ∑ d : Fin 320, f ⟨320 * q + d, by omega⟩ = ∑ j, f j := by
  rw [← Fintype.sum_prod_type' (f := fun (q : Fin 8) (d : Fin 320) => f ⟨320 * q + d, by omega⟩)]
  exact Fintype.sum_equiv finProdFinEquiv _ _ (fun x => by
    congr 1; apply Fin.ext; simp [finProdFinEquiv]; omega)

/-- A row times a matrix of zeros and a single one per column picks that one entry. -/
theorem sum_pick {N : Nat} (u e : Fin N → EReal) (s : Fin N) (he : ∀ j, e j = if j = s then 1 else 0) :
    ∑ j, u j * e j = u s := by
  rw [Finset.sum_eq_single s]
  · rw [he, if_pos rfl, mul_one]
  · intro j _ hj; rw [he, if_neg hj, mul_zero]
  · intro h; exact absurd (Finset.mem_univ s) h

end Cert.Proof.Maths
end
-- ==== Proof.Table.lean ====
module

public import proofs.«01_k».proof.KernelIdeal

@[expose] public section

set_option maxRecDepth 100000

noncomputable section

/-! The kernel's permutation matrix is a printed table of 340 rows and 320 columns. Each column has a single one, in
the row that holds the entry which the result's column copies. The check runs row by row. -/

namespace Cert.Proof.Table

open Cert.KernelIdeal

/-- The column of the kernel's mode-major row that the result's column `d` copies. -/
def src (d : Nat) : Nat :=
  if d < 220 then (if d % 11 = 0 then 320 + d / 11 else 32 * (d % 11 - 1) + d / 11)
  else 32 * ((d - 220) % 10) + 20 + (d - 220) / 10

/-- Whether the table holds the right word at one place. -/
def chk (s d : Nat) : Bool := (lit0t (s * 320 + d)).toNat.beq (bif s.beq (src d) then 0x3F800000 else 0)

/-- Whether the first `n` columns of row `s` are right. -/
def chkRow (s n : Nat) : Bool := Nat.rec true (fun d b => bif chk s d then b else false) n

/-- Whether `n` rows from row `s` on are right. -/
def chkRows (s n : Nat) : Bool := Nat.rec true (fun i b => bif chkRow (s + i) 320 then b else false) n

theorem of_chk {s d : Nat} (h : chk s d = true) : lit0t (s * 320 + d) = if s = src d then 0x3F800000#32 else 0x00000000#32 := by
  apply BitVec.eq_of_toNat_eq
  rw [Nat.eq_of_beq_eq_true h]
  by_cases e : s = src d
  · rw [if_pos e, show s.beq (src d) = true from (Nat.beq_eq).symm ▸ e]; rfl
  · rw [if_neg e, show s.beq (src d) = false from Bool.eq_false_iff.mpr fun h => e (Nat.eq_of_beq_eq_true h)]; rfl

theorem of_chkRow {s : Nat} : ∀ {n : Nat}, chkRow s n = true → ∀ d < n, chk s d = true
  | 0, _, d, h => absurd h (Nat.not_lt_zero d)
  | n + 1, h, d, hd => by
    have h' : (bif chk s n then chkRow s n else false) = true := h
    cases e : chk s n with
    | false => rw [e] at h'; exact Bool.noConfusion h'
    | true =>
      rw [e] at h'
      rcases Nat.lt_succ_iff_lt_or_eq.mp hd with hd | rfl
      · exact of_chkRow h' d hd
      · exact e

theorem of_chkRows {s : Nat} : ∀ {n : Nat}, chkRows s n = true → ∀ i < n, chkRow (s + i) 320 = true
  | 0, _, d, h => absurd h (Nat.not_lt_zero d)
  | n + 1, h, d, hd => by
    have h' : (bif chkRow (s + n) 320 then chkRows s n else false) = true := h
    cases e : chkRow (s + n) 320 with
    | false => rw [e] at h'; exact Bool.noConfusion h'
    | true =>
      rw [e] at h'
      rcases Nat.lt_succ_iff_lt_or_eq.mp hd with hd | rfl
      · exact of_chkRows h' d hd
      · exact e

end Cert.Proof.Table
end
-- ==== Proof.TableA.lean ====
module

public import proofs.«01_k».proof.Proof.Table

@[expose] public section

set_option maxRecDepth 100000

/-! Rows 0 to 69 of the permutation table, ten rows to a check. -/

namespace Cert.Proof.Table

theorem rows0 : chkRows 0 10 = true := by decide +kernel
theorem rows1 : chkRows 10 10 = true := by decide +kernel
theorem rows2 : chkRows 20 10 = true := by decide +kernel
theorem rows3 : chkRows 30 10 = true := by decide +kernel
theorem rows4 : chkRows 40 10 = true := by decide +kernel
theorem rows5 : chkRows 50 10 = true := by decide +kernel
theorem rows6 : chkRows 60 10 = true := by decide +kernel

end Cert.Proof.Table
end
-- ==== Proof.TableB.lean ====
module

public import proofs.«01_k».proof.Proof.Table

@[expose] public section

set_option maxRecDepth 100000

/-! Rows 70 to 139 of the permutation table, ten rows to a check. -/

namespace Cert.Proof.Table

theorem rows7 : chkRows 70 10 = true := by decide +kernel
theorem rows8 : chkRows 80 10 = true := by decide +kernel
theorem rows9 : chkRows 90 10 = true := by decide +kernel
theorem rows10 : chkRows 100 10 = true := by decide +kernel
theorem rows11 : chkRows 110 10 = true := by decide +kernel
theorem rows12 : chkRows 120 10 = true := by decide +kernel
theorem rows13 : chkRows 130 10 = true := by decide +kernel

end Cert.Proof.Table
end
-- ==== Proof.TableC.lean ====
module

public import proofs.«01_k».proof.Proof.Table

@[expose] public section

set_option maxRecDepth 100000

/-! Rows 140 to 209 of the permutation table, ten rows to a check. -/

namespace Cert.Proof.Table

theorem rows14 : chkRows 140 10 = true := by decide +kernel
theorem rows15 : chkRows 150 10 = true := by decide +kernel
theorem rows16 : chkRows 160 10 = true := by decide +kernel
theorem rows17 : chkRows 170 10 = true := by decide +kernel
theorem rows18 : chkRows 180 10 = true := by decide +kernel
theorem rows19 : chkRows 190 10 = true := by decide +kernel
theorem rows20 : chkRows 200 10 = true := by decide +kernel

end Cert.Proof.Table
end
-- ==== Proof.TableD.lean ====
module

public import proofs.«01_k».proof.Proof.Table

@[expose] public section

set_option maxRecDepth 100000

/-! Rows 210 to 279 of the permutation table, ten rows to a check. -/

namespace Cert.Proof.Table

theorem rows21 : chkRows 210 10 = true := by decide +kernel
theorem rows22 : chkRows 220 10 = true := by decide +kernel
theorem rows23 : chkRows 230 10 = true := by decide +kernel
theorem rows24 : chkRows 240 10 = true := by decide +kernel
theorem rows25 : chkRows 250 10 = true := by decide +kernel
theorem rows26 : chkRows 260 10 = true := by decide +kernel
theorem rows27 : chkRows 270 10 = true := by decide +kernel

end Cert.Proof.Table
end
-- ==== Proof.TableE.lean ====
module

public import proofs.«01_k».proof.Proof.Table

@[expose] public section

set_option maxRecDepth 100000

/-! Rows 280 to 339 of the permutation table, ten rows to a check. -/

namespace Cert.Proof.Table

theorem rows28 : chkRows 280 10 = true := by decide +kernel
theorem rows29 : chkRows 290 10 = true := by decide +kernel
theorem rows30 : chkRows 300 10 = true := by decide +kernel
theorem rows31 : chkRows 310 10 = true := by decide +kernel
theorem rows32 : chkRows 320 10 = true := by decide +kernel
theorem rows33 : chkRows 330 10 = true := by decide +kernel

end Cert.Proof.Table
end
-- ==== Proof.TableAll.lean ====
module

public import proofs.«01_k».proof.Proof.TableA
public import proofs.«01_k».proof.Proof.TableB
public import proofs.«01_k».proof.Proof.TableC
public import proofs.«01_k».proof.Proof.TableD
public import proofs.«01_k».proof.Proof.TableE

@[expose] public section

/-! The whole permutation table, from the checks of its rows. -/

namespace Cert.Proof.Table

open Cert.KernelIdeal

theorem tens (q : Nat) (hq : q < 34) : ∀ i < 10, chkRow (10 * q + i) 320 = true := by
  match q, hq with
  | 0, _ => exact of_chkRows rows0
  | 1, _ => exact of_chkRows rows1
  | 2, _ => exact of_chkRows rows2
  | 3, _ => exact of_chkRows rows3
  | 4, _ => exact of_chkRows rows4
  | 5, _ => exact of_chkRows rows5
  | 6, _ => exact of_chkRows rows6
  | 7, _ => exact of_chkRows rows7
  | 8, _ => exact of_chkRows rows8
  | 9, _ => exact of_chkRows rows9
  | 10, _ => exact of_chkRows rows10
  | 11, _ => exact of_chkRows rows11
  | 12, _ => exact of_chkRows rows12
  | 13, _ => exact of_chkRows rows13
  | 14, _ => exact of_chkRows rows14
  | 15, _ => exact of_chkRows rows15
  | 16, _ => exact of_chkRows rows16
  | 17, _ => exact of_chkRows rows17
  | 18, _ => exact of_chkRows rows18
  | 19, _ => exact of_chkRows rows19
  | 20, _ => exact of_chkRows rows20
  | 21, _ => exact of_chkRows rows21
  | 22, _ => exact of_chkRows rows22
  | 23, _ => exact of_chkRows rows23
  | 24, _ => exact of_chkRows rows24
  | 25, _ => exact of_chkRows rows25
  | 26, _ => exact of_chkRows rows26
  | 27, _ => exact of_chkRows rows27
  | 28, _ => exact of_chkRows rows28
  | 29, _ => exact of_chkRows rows29
  | 30, _ => exact of_chkRows rows30
  | 31, _ => exact of_chkRows rows31
  | 32, _ => exact of_chkRows rows32
  | 33, _ => exact of_chkRows rows33
  | q + 34, hq => exact absurd hq (by omega)

/-- The table at row `s`, column `d`: one where `s` is the source of `d`, zero elsewhere. -/
theorem entry (s d : Nat) (hs : s < 340) (hd : d < 320) :
    lit0t (s * 320 + d) = if s = src d then 0x3F800000#32 else 0x00000000#32 := by
  have h := tens (s / 10) (by omega) (s % 10) (by omega)
  rw [show 10 * (s / 10) + s % 10 = s by omega] at h
  exact of_chk (of_chkRow h d hd)

end Cert.Proof.Table
end
-- ==== Proof.Host.lean ====
module

public import proofs.«01_k».proof.Proof.Gen.KernelIdeal.Frame
public import proofs.«01_k».proof.Proof.Maths
public import proofs.«01_k».proof.Proof.TableAll
public import Idealize.ShloMosaic.Lib.StableHlo.ReadAt

@[expose] public section

set_option maxRecDepth 16384

noncomputable section

/-! What the kernel's input arrays hold when the region starts, at an index: the host's packed weights, biases and noise. -/

namespace Cert.Proof.Host

open Cert.KernelIdeal Cert.KernelIdeal.Gen Idealize.ShloMosaic Idealize.ShloMosaic.TcCoe Cert.Proof.Maths

variable (m : (ℓ : Loc nD τ sig) → Buf (Elt Ideal) ℓ) (c : Dev nD)

/-- The network whose inputs the launch's arguments hold. -/
def net : Net where
  z b j := (m ((c : Thread nD τ).loc main_arg0) : FVec Ideal S4096x128 .f32) (ix2 b j)
  cond b j := (m ((c : Thread nD τ).loc main_arg1) : FVec Ideal S4096x100 .f32) (ix2 b j)
  W1 j k := (m ((c : Thread nD τ).loc main_arg2) : FVec Ideal S228x256 .f32) (ix2 j k)
  b1 k := (m ((c : Thread nD τ).loc main_arg3) : FVec Ideal S256 .f32) (ix1 k)
  g1 k := (m ((c : Thread nD τ).loc main_arg4) : FVec Ideal S256 .f32) (ix1 k)
  be1 k := (m ((c : Thread nD τ).loc main_arg5) : FVec Ideal S256 .f32) (ix1 k)
  W2 j k := (m ((c : Thread nD τ).loc main_arg6) : FVec Ideal S256x256 .f32) (ix2 j k)
  b2 k := (m ((c : Thread nD τ).loc main_arg7) : FVec Ideal S256 .f32) (ix1 k)
  g2 k := (m ((c : Thread nD τ).loc main_arg8) : FVec Ideal S256 .f32) (ix1 k)
  be2 k := (m ((c : Thread nD τ).loc main_arg9) : FVec Ideal S256 .f32) (ix1 k)
  Wa g h := (m ((c : Thread nD τ).loc main_arg10) : FVec Ideal S20x256x1 .f32) (ix3 g h 0)
  ba g := (m ((c : Thread nD τ).loc main_arg11) : FVec Ideal S20x1 .f32) (ix2 g 0)
  Wb g h j := (m ((c : Thread nD τ).loc main_arg12) : FVec Ideal S20x256x10 .f32) (ix3 g h j)
  bb g j := (m ((c : Thread nD τ).loc main_arg13) : FVec Ideal S20x10 .f32) (ix2 g j)
  Wd g h j := (m ((c : Thread nD τ).loc main_arg14) : FVec Ideal S10x256x10 .f32) (ix3 g h j)
  bd g j := (m ((c : Thread nD τ).loc main_arg15) : FVec Ideal S10x10 .f32) (ix2 g j)
  Wc1 j k := (m ((c : Thread nD τ).loc main_arg16) : FVec Ideal S2560x256 .f32) (ix2 j k)
  bc1 k := (m ((c : Thread nD τ).loc main_arg17) : FVec Ideal S256 .f32) (ix1 k)
  Wc2 j k := (m ((c : Thread nD τ).loc main_arg18) : FVec Ideal S256x256 .f32) (ix2 j k)
  bc2 k := (m ((c : Thread nD τ).loc main_arg19) : FVec Ideal S256 .f32) (ix1 k)
  Wo j := (m ((c : Thread nD τ).loc main_arg20) : FVec Ideal S256x1 .f32) (ix2 j 0)
  bo := (m ((c : Thread nD τ).loc main_arg21) : FVec Ideal S1 .f32) (ix1 0)
  gc g b j := gumbel ((m ((c : Thread nD τ).loc main_arg22) : FVec Ideal S20x4096x10 .f32) (ix3 g b j))
  gd g b j := gumbel ((m ((c : Thread nD τ).loc main_arg23) : FVec Ideal S10x4096x10 .f32) (ix3 g b j))

theorem Wb_at (h : Fin 256) (g : Fin 20) (j : Fin 10) :
    (V m c main_v7 : FVec Ideal S256x340 .f32) (ix2 h ⟨32 * j + g, by omega⟩) = (net m c).Wb g h j := by
  unfold V
  after_reads_at
  rw [dif_pos (show (32 * j.val + g.val) < 320 by omega), dif_pos (show (32 * j.val + g.val) % 32 < 20 by omega)]
  after_reads_at
  have hg : (⟨(32 * j.val + g.val) % 32, by omega⟩ : Fin 20) = g := Fin.ext (by simp only []; omega)
  have hj : (⟨(32 * j.val + g.val) / 32, by omega⟩ : Fin 10) = j := Fin.ext (by simp only []; omega)
  exact congrArg₂ (fun (x : Fin 20) (y : Fin 10) => (m ((c : Thread nD τ).loc main_arg12) : FVec Ideal S20x256x10 .f32) (ix3 x h y)) hg hj

theorem Wd_at (h : Fin 256) (g : Fin 10) (j : Fin 10) :
    (V m c main_v7 : FVec Ideal S256x340 .f32) (ix2 h ⟨32 * j + (20 + g), by omega⟩) = (net m c).Wd g h j := by
  unfold V
  after_reads_at
  rw [dif_pos (show (32 * j.val + (20 + g.val)) < 320 by omega), dif_neg (show ¬(32 * j.val + (20 + g.val)) % 32 < 20 by omega),
    dif_pos (show (32 * j.val + (20 + g.val)) % 32 - 20 < 10 by omega)]
  after_reads_at
  have hg : (⟨(32 * j.val + (20 + g.val)) % 32 - 20, by omega⟩ : Fin 10) = g := Fin.ext (by simp only []; omega)
  have hj : (⟨(32 * j.val + (20 + g.val)) / 32, by omega⟩ : Fin 10) = j := Fin.ext (by simp only []; omega)
  exact congrArg₂ (fun (x : Fin 10) (y : Fin 10) => (m ((c : Thread nD τ).loc main_arg14) : FVec Ideal S10x256x10 .f32) (ix3 x h y)) hg hj

theorem Wa_at (h : Fin 256) (g : Fin 20) :
    (V m c main_v7 : FVec Ideal S256x340 .f32) (ix2 h ⟨320 + g, by omega⟩) = (net m c).Wa g h := by
  unfold V
  after_reads_at
  rfl

theorem bb_at (g : Fin 20) (j : Fin 10) :
    (V m c main_v15 : FVec Ideal S1x340 .f32) (ix2 0 ⟨32 * j + g, by omega⟩) = (net m c).bb g j := by
  unfold V
  after_reads_at
  rw [dif_pos (show (32 * j.val + g.val) < 320 by omega)]
  after_reads_at
  rw [dif_pos (show (32 * j.val + g.val) % 32 < 20 by omega)]
  after_reads_at
  have hg : (⟨(32 * j.val + g.val) % 32, by omega⟩ : Fin 20) = g := Fin.ext (by simp only []; omega)
  exact congrArg (fun x : Fin 20 => (m ((c : Thread nD τ).loc main_arg13) : FVec Ideal S20x10 .f32) (ix2 x j)) hg

theorem bd_at (g : Fin 10) (j : Fin 10) :
    (V m c main_v15 : FVec Ideal S1x340 .f32) (ix2 0 ⟨32 * j + (20 + g), by omega⟩) = (net m c).bd g j := by
  unfold V
  after_reads_at
  rw [dif_pos (show (32 * j.val + (20 + g.val)) < 320 by omega)]
  after_reads_at
  rw [dif_neg (show ¬(32 * j.val + (20 + g.val)) % 32 < 20 by omega),
    dif_pos (show (32 * j.val + (20 + g.val)) % 32 - 20 < 10 by omega)]
  after_reads_at
  have hg : (⟨(32 * j.val + (20 + g.val)) % 32 - 20, by omega⟩ : Fin 10) = g := Fin.ext (by simp only []; omega)
  exact congrArg (fun x : Fin 10 => (m ((c : Thread nD τ).loc main_arg15) : FVec Ideal S10x10 .f32) (ix2 x j)) hg

theorem ba_at (g : Fin 20) :
    (V m c main_v15 : FVec Ideal S1x340 .f32) (ix2 0 ⟨320 + g, by omega⟩) = (net m c).ba g := by
  unfold V
  after_reads_at
  after_reads_at
  rfl

theorem gc_at (b : Fin 4096) (g : Fin 20) (j : Fin 10) :
    (V m c main_v36 : FVec Ideal S4096x320 .f32) (ix2 b ⟨32 * j + g, by omega⟩) = (net m c).gc g b j := by
  unfold V
  after_reads_at
  rw [dif_pos (show (32 * j.val + g.val) % 32 < 20 by omega)]
  after_reads_at
  have hg : (⟨(32 * j.val + g.val) % 32, by omega⟩ : Fin 20) = g := Fin.ext (by simp only []; omega)
  exact congrArg (fun x : Fin 20 => gumbel ((m ((c : Thread nD τ).loc main_arg22) : FVec Ideal S20x4096x10 .f32) (ix3 x b j))) hg

theorem gd_at (b : Fin 4096) (g : Fin 10) (j : Fin 10) :
    (V m c main_v36 : FVec Ideal S4096x320 .f32) (ix2 b ⟨32 * j + (20 + g), by omega⟩) = (net m c).gd g b j := by
  unfold V
  after_reads_at
  rw [dif_neg (show ¬(32 * j.val + (20 + g.val)) % 32 < 20 by omega),
    dif_pos (show (32 * j.val + (20 + g.val)) % 32 - 20 < 10 by omega)]
  after_reads_at
  have hg : (⟨(32 * j.val + (20 + g.val)) % 32 - 20, by omega⟩ : Fin 10) = g := Fin.ext (by simp only []; omega)
  exact congrArg (fun x : Fin 10 => gumbel ((m ((c : Thread nD τ).loc main_arg23) : FVec Ideal S10x4096x10 .f32) (ix3 x b j))) hg

theorem b1_at (k : Fin 256) :
    (V m c main_v48 : FVec Ideal S9x256 .f32) (ix2 0 k) = (net m c).b1 k := by
  unfold V
  after_reads_at
  after_reads_at
  rfl

theorem g1_at (k : Fin 256) :
    (V m c main_v48 : FVec Ideal S9x256 .f32) (ix2 1 k) = (net m c).g1 k := by
  unfold V
  after_reads_at
  after_reads_at
  rfl

theorem be1_at (k : Fin 256) :
    (V m c main_v48 : FVec Ideal S9x256 .f32) (ix2 2 k) = (net m c).be1 k := by
  unfold V
  after_reads_at
  after_reads_at
  rfl

theorem b2_at (k : Fin 256) :
    (V m c main_v48 : FVec Ideal S9x256 .f32) (ix2 3 k) = (net m c).b2 k := by
  unfold V
  after_reads_at
  after_reads_at
  rfl

theorem g2_at (k : Fin 256) :
    (V m c main_v48 : FVec Ideal S9x256 .f32) (ix2 4 k) = (net m c).g2 k := by
  unfold V
  after_reads_at
  after_reads_at
  rfl

theorem be2_at (k : Fin 256) :
    (V m c main_v48 : FVec Ideal S9x256 .f32) (ix2 5 k) = (net m c).be2 k := by
  unfold V
  after_reads_at
  after_reads_at
  rfl

theorem bc1_at (k : Fin 256) :
    (V m c main_v48 : FVec Ideal S9x256 .f32) (ix2 6 k) = (net m c).bc1 k := by
  unfold V
  after_reads_at
  after_reads_at
  rfl

theorem bc2_at (k : Fin 256) :
    (V m c main_v48 : FVec Ideal S9x256 .f32) (ix2 7 k) = (net m c).bc2 k := by
  unfold V
  after_reads_at
  after_reads_at
  rfl

theorem bo_at  :
    (V m c main_v48 : FVec Ideal S9x256 .f32) (ix2 8 0) = (net m c).bo := by
  unfold V
  after_reads_at
  after_reads_at
  rfl

theorem perm_at (s : Fin 340) (d : Fin 320) :
    (V m c main_cst : FVec Ideal S340x320 .f32) (ix2 s d) = (if s.val = Table.src d.val then 1 else 0 : EReal) := by
  unfold V
  after_reads_at
  have hr : lit0 (S340x320.rowMajor (ix2 s d)) = Cert.KernelIdeal.lit0t (s.val * 320 + d.val) := by
    change lit0t (S340x320.rowMajor (ix2 s d)).val = _
    rw [Shape.rowMajor_val_two]
    rfl
  rw [hr, Table.entry _ _ s.isLt d.isLt]
  split_ifs
  · exact Ideal.ofBits_one_f32
  · exact Ideal.ofBits_zero_f32

end Cert.Proof.Host
end
-- ==== Proof.Lanes.lean ====
module

public import proofs.«01_k».proof.Proof.Gen.KernelIdeal.Frame
public import proofs.«01_k».proof.Proof.Maths
public import proofs.«01_k».proof.Proof.Table

@[expose] public section

set_option maxRecDepth 16384

noncomputable section

/-! The kernel's straight-through samples, lane by lane, and the permutation that lays them out as rows. -/

namespace Cert.Proof.Block

open Cert.KernelIdeal Cert.KernelIdeal.Gen Idealize.ShloMosaic Cert.Proof.Maths Cert.Proof.Table

section Lanes

variable {v61 v62 v63 v64 v65 v66 v67 v76 v78 v80 v81 : FVec Ideal S2048x32 .f32} {s : Fin 10 → EReal} {i : S2048x32.Idx}

/-- The ten logits of a lane, and what the first values computed from them hold there. -/
structure Lane (v61 v62 v63 v64 v65 v66 v67 v76 v78 v80 v81 : FVec Ideal S2048x32 .f32) (s : Fin 10 → EReal) (i : S2048x32.Idx) : Prop where
  h61 : v61 i = s 3
  h62 : v62 i = s 4
  h63 : v63 i = s 5
  h64 : v64 i = s 6
  h65 : v65 i = s 7
  h66 : v66 i = s 8
  h67 : v67 i = s 9
  h76 : v76 i = top s
  h78 : v78 i = expo s 0
  h80 : v80 i = expo s 1
  h81 : v81 i = s 2 - top s

variable (L : Lane v61 v62 v63 v64 v65 v66 v67 v76 v78 v80 v81 s i)
include L

theorem den : k0_pay30 v61 v62 v63 v64 v65 v66 v67 v76 v78 v80 v81 i = ∑ j, expo s j := by
  rw [← sum_chain]
  pointwise [k0_pay30, k0_pay22, k0_pay23, k0_pay24, k0_pay25, k0_pay26, k0_pay27, k0_pay28, k0_pay29]
  simp only [L.h61, L.h62, L.h63, L.h64, L.h65, L.h66, L.h67, L.h76, L.h78, L.h80, L.h81, expo]

theorem softs :
    k0_pay31 v61 v62 v63 v64 v65 v66 v67 v76 v78 v80 v81 i = soft s 0 ∧
    k0_pay32 v61 v62 v63 v64 v65 v66 v67 v76 v78 v80 v81 i = soft s 1 ∧
    k0_pay33 v61 v62 v63 v64 v65 v66 v67 v76 v78 v80 v81 i = soft s 2 ∧
    k0_pay34 v61 v62 v63 v64 v65 v66 v67 v76 v78 v80 v81 i = soft s 3 ∧
    k0_pay35 v61 v62 v63 v64 v65 v66 v67 v76 v78 v80 v81 i = soft s 4 ∧
    k0_pay36 v61 v62 v63 v64 v65 v66 v67 v76 v78 v80 v81 i = soft s 5 ∧
    k0_pay37 v61 v62 v63 v64 v65 v66 v67 v76 v78 v80 v81 i = soft s 6 ∧
    k0_pay38 v61 v62 v63 v64 v65 v66 v67 v76 v78 v80 v81 i = soft s 7 ∧
    k0_pay39 v61 v62 v63 v64 v65 v66 v67 v76 v78 v80 v81 i = soft s 8 ∧
    k0_pay40 v61 v62 v63 v64 v65 v66 v67 v76 v78 v80 v81 i = soft s 9 := by
  refine ⟨?_, ?_, ?_, ?_, ?_, ?_, ?_, ?_, ?_, ?_⟩ <;>
  · pointwise [k0_pay31, k0_pay32, k0_pay33, k0_pay34, k0_pay35, k0_pay36, k0_pay37, k0_pay38, k0_pay39, k0_pay40, k0_pay22, k0_pay23, k0_pay24, k0_pay25, k0_pay26, k0_pay27, k0_pay28, k0_pay29]
    simp only [L.h61, L.h62, L.h63, L.h64, L.h65, L.h66, L.h67, L.h76, L.h78, L.h80, L.h81, den L, soft, expo]

theorem peak : k0_pay41 v61 v62 v63 v64 v65 v66 v67 v76 v78 v80 v81 i = top (soft s) := by
  obtain ⟨e0, e1, e2, e3, e4, e5, e6, e7, e8, e9⟩ := softs L
  rw [← top_chain]
  pointwise [k0_pay41]
  simp only [e0, e1, e2, e3, e4, e5, e6, e7, e8, e9]

omit L in
/-- The kernel's indicator: the comparison's bit, widened and read as a number. -/
theorem bit_word (P : Prop) [Decidable P] :
    FloatOps.sitofp (F := Ideal) .f32 (BitVec.setWidth 32 (BitVec.ofBool (decide P))) = if P then 1 else 0 := by
  by_cases h : P <;> simp [h, FloatOps.sitofp]

omit L in
theorem hot_fold (s : Fin 10 → EReal) (m : Fin 10) :
    (if soft s m = top (soft s) then 1 else 0) - soft s m + soft s m = hot s m := rfl

theorem hots : k0_pay42 v61 v62 v63 v64 v65 v66 v67 v76 v78 v80 v81 i = hot s 0 ∧ k0_pay43 v61 v62 v63 v64 v65 v66 v67 v76 v78 v80 v81 i = hot s 1 ∧ k0_pay44 v61 v62 v63 v64 v65 v66 v67 v76 v78 v80 v81 i = hot s 2 := by
  obtain ⟨e0, e1, e2, -⟩ := softs L
  refine ⟨?_, ?_, ?_⟩ <;>
  · pointwise [k0_pay42, k0_pay43, k0_pay44]
    simp only [e0, e1, e2, peak L, bit_word, hot_fold]

theorem bit3 : FloatOps.sitofp (F := Ideal) .f32 (k0_pay45 v61 v62 v63 v64 v65 v66 v67 v76 v78 v80 v81 i) = if soft s 3 = top (soft s) then 1 else 0 := by
  obtain ⟨-, -, -, e3, -⟩ := softs L
  pointwise [k0_pay45]
  simp only [e3, peak L, bit_word]

end Lanes

/-- The kernel's row before the permutation: ten modes of 32 lanes, then the twenty heads. -/
def mix (S : Fin 32 → Fin 10 → EReal) (T : Fin 20 → EReal) (x : Fin 340) : EReal :=
  if h : x.val < 320 then hot (S ⟨x.val % 32, by omega⟩) ⟨x.val / 32, by omega⟩ else T ⟨x.val - 320, by omega⟩

theorem mix_lane (S : Fin 32 → Fin 10 → EReal) (T : Fin 20 → EReal) (k : Fin 10) (l : Fin 32) (x : Fin 340) (h : x.val = 32 * k.val + l.val) :
    hot (S l) k = mix S T x := by
  unfold mix
  rw [dif_pos (by omega)]
  congr 2 <;> apply Fin.ext <;> simp only <;> omega

theorem mix_head (S : Fin 32 → Fin 10 → EReal) (T : Fin 20 → EReal) (g : Fin 20) (x : Fin 340) (h : x.val = 320 + g.val) :
    T g = mix S T x := by
  unfold mix
  rw [dif_neg (by omega)]
  congr 1; apply Fin.ext; simp only; omega

theorem src_lt (d : Fin 320) : src d.val < 340 := by
  unfold src; split_ifs <;> omega

set_option maxHeartbeats 2000000 in
/-- The product with the permutation matrix picks one entry of the row before it. -/
theorem picked {v51 : FVec Ideal S2048x20 .f32} {v109 v110 v111 v112 v113 v114 v115 v124 v129 v134 v139 : FVec Ideal S2048x32 .f32} {v141 : IVec S2048x32 32} {x8 : Vec Ideal S340x320 .f32}
    {S : Fin 32 → Fin 10 → EReal} {T : Fin 20 → EReal} {r : Fin 2048} (hT : ∀ g, v51 (ix2 r g) = T g)
    (h0 : ∀ l, v129 (ix2 r l) = hot (S l) 0) (h1 : ∀ l, v134 (ix2 r l) = hot (S l) 1) (h2 : ∀ l, v139 (ix2 r l) = hot (S l) 2)
    (h3 : ∀ l, v109 (ix2 r l) = soft (S l) 3) (h4 : ∀ l, v110 (ix2 r l) = soft (S l) 4) (h5 : ∀ l, v111 (ix2 r l) = soft (S l) 5)
    (h6 : ∀ l, v112 (ix2 r l) = soft (S l) 6) (h7 : ∀ l, v113 (ix2 r l) = soft (S l) 7) (h8 : ∀ l, v114 (ix2 r l) = soft (S l) 8)
    (h9 : ∀ l, v115 (ix2 r l) = soft (S l) 9) (hm : ∀ l, v124 (ix2 r l) = top (soft (S l)))
    (hb : ∀ l, FloatOps.sitofp (F := Ideal) .f32 (v141 (ix2 r l)) = if soft (S l) 3 = top (soft (S l)) then 1 else 0)
    (hp : ∀ (s : Fin 340) (d : Fin 320), x8 (ix2 s d) = if s.val = src d.val then 1 else 0) (d : Fin 320) :
    k0_pay46 v51 v109 v110 v111 v112 v113 v114 v115 v124 v129 v134 v139 v141 x8 (ix2 r d) = mix S T ⟨src d, src_lt d⟩ := by
  pointwise [k0_pay46]
  refine (Finset.sum_congr rfl fun x _ => ?_).trans
    (sum_pick (mix S T) (fun x => x8 (ix2 x d)) ⟨src d, src_lt d⟩ fun j => (hp j d).trans (if_congr (by rw [Fin.ext_iff]) rfl rfl))
  congr 1
  have hx := x.isLt
  by_cases c0 : x.val < 32
  · rw [dif_pos c0]
    exact (h0 _).trans (mix_lane S T 0 ⟨x.val, c0⟩ x (by change x.val = 32 * 0 + (x.val); omega))
  rw [dif_neg c0]
  by_cases c1 : x.val - 32 < 32
  · rw [dif_pos c1]
    exact (h1 _).trans (mix_lane S T 1 ⟨x.val - 32, c1⟩ x (by change x.val = 32 * 1 + (x.val - 32); omega))
  rw [dif_neg c1]
  by_cases c2 : x.val - 32 - 32 < 32
  · rw [dif_pos c2]
    exact (h2 _).trans (mix_lane S T 2 ⟨x.val - 32 - 32, c2⟩ x (by change x.val = 32 * 2 + (x.val - 32 - 32); omega))
  rw [dif_neg c2]
  by_cases c3 : x.val - 32 - 32 - 32 < 32
  · rw [dif_pos c3, hb, h3, hot_fold]
    exact mix_lane S T 3 ⟨x.val - 32 - 32 - 32, c3⟩ x (by change x.val = 32 * 3 + (x.val - 32 - 32 - 32); omega)
  rw [dif_neg c3]
  by_cases c4 : x.val - 32 - 32 - 32 - 32 < 32
  · rw [dif_pos c4, h4, hm, bit_word, hot_fold]
    exact mix_lane S T 4 ⟨x.val - 32 - 32 - 32 - 32, c4⟩ x (by change x.val = 32 * 4 + (x.val - 32 - 32 - 32 - 32); omega)
  rw [dif_neg c4]
  by_cases c5 : x.val - 32 - 32 - 32 - 32 - 32 < 32
  · rw [dif_pos c5, h5, hm, bit_word, hot_fold]
    exact mix_lane S T 5 ⟨x.val - 32 - 32 - 32 - 32 - 32, c5⟩ x (by change x.val = 32 * 5 + (x.val - 32 - 32 - 32 - 32 - 32); omega)
  rw [dif_neg c5]
  by_cases c6 : x.val - 32 - 32 - 32 - 32 - 32 - 32 < 32
  · rw [dif_pos c6, h6, hm, bit_word, hot_fold]
    exact mix_lane S T 6 ⟨x.val - 32 - 32 - 32 - 32 - 32 - 32, c6⟩ x (by change x.val = 32 * 6 + (x.val - 32 - 32 - 32 - 32 - 32 - 32); omega)
  rw [dif_neg c6]
  by_cases c7 : x.val - 32 - 32 - 32 - 32 - 32 - 32 - 32 < 32
  · rw [dif_pos c7, h7, hm, bit_word, hot_fold]
    exact mix_lane S T 7 ⟨x.val - 32 - 32 - 32 - 32 - 32 - 32 - 32, c7⟩ x (by change x.val = 32 * 7 + (x.val - 32 - 32 - 32 - 32 - 32 - 32 - 32); omega)
  rw [dif_neg c7]
  by_cases c8 : x.val - 32 - 32 - 32 - 32 - 32 - 32 - 32 - 32 < 32
  · rw [dif_pos c8, h8, hm, bit_word, hot_fold]
    exact mix_lane S T 8 ⟨x.val - 32 - 32 - 32 - 32 - 32 - 32 - 32 - 32, c8⟩ x (by change x.val = 32 * 8 + (x.val - 32 - 32 - 32 - 32 - 32 - 32 - 32 - 32); omega)
  rw [dif_neg c8]
  by_cases c9 : x.val - 32 - 32 - 32 - 32 - 32 - 32 - 32 - 32 - 32 < 32
  · rw [dif_pos c9, h9, hm, bit_word, hot_fold]
    exact mix_lane S T 9 ⟨x.val - 32 - 32 - 32 - 32 - 32 - 32 - 32 - 32 - 32, c9⟩ x (by change x.val = 32 * 9 + (x.val - 32 - 32 - 32 - 32 - 32 - 32 - 32 - 32 - 32); omega)
  rw [dif_neg c9]
  exact (hT _).trans (mix_head S T ⟨x.val - 32 - 32 - 32 - 32 - 32 - 32 - 32 - 32 - 32 - 32, by omega⟩ x (by change x.val = 320 + (x.val - 32 - 32 - 32 - 32 - 32 - 32 - 32 - 32 - 32 - 32); omega))

theorem permuted {v51 : FVec Ideal S2048x20 .f32} {v61 v62 v63 v64 v65 v66 v67 v76 v78 v80 v81 : FVec Ideal S2048x32 .f32} {x8 : Vec Ideal S340x320 .f32}
    {S : Fin 32 → Fin 10 → EReal} {T : Fin 20 → EReal} {r : Fin 2048}
    (hL : ∀ l, Lane v61 v62 v63 v64 v65 v66 v67 v76 v78 v80 v81 (S l) (ix2 r l)) (hT : ∀ g, v51 (ix2 r g) = T g)
    (hp : ∀ (s : Fin 340) (d : Fin 320), x8 (ix2 s d) = if s.val = src d.val then 1 else 0) (d : Fin 320) :
    k0_pay46 v51 (k0_pay34 v61 v62 v63 v64 v65 v66 v67 v76 v78 v80 v81) (k0_pay35 v61 v62 v63 v64 v65 v66 v67 v76 v78 v80 v81) (k0_pay36 v61 v62 v63 v64 v65 v66 v67 v76 v78 v80 v81) (k0_pay37 v61 v62 v63 v64 v65 v66 v67 v76 v78 v80 v81) (k0_pay38 v61 v62 v63 v64 v65 v66 v67 v76 v78 v80 v81) (k0_pay39 v61 v62 v63 v64 v65 v66 v67 v76 v78 v80 v81) (k0_pay40 v61 v62 v63 v64 v65 v66 v67 v76 v78 v80 v81)
      (k0_pay41 v61 v62 v63 v64 v65 v66 v67 v76 v78 v80 v81) (k0_pay42 v61 v62 v63 v64 v65 v66 v67 v76 v78 v80 v81) (k0_pay43 v61 v62 v63 v64 v65 v66 v67 v76 v78 v80 v81) (k0_pay44 v61 v62 v63 v64 v65 v66 v67 v76 v78 v80 v81) (k0_pay45 v61 v62 v63 v64 v65 v66 v67 v76 v78 v80 v81) x8 (ix2 r d) = mix S T ⟨src d, src_lt d⟩ :=
  have hs := fun l => (softs (hL l)).2.2.2
  have hh := fun l => hots (hL l)
  picked hT (fun l => (hh l).1) (fun l => (hh l).2.1) (fun l => (hh l).2.2) (fun l => (hs l).1) (fun l => (hs l).2.1)
    (fun l => (hs l).2.2.1) (fun l => (hs l).2.2.2.1) (fun l => (hs l).2.2.2.2.1) (fun l => (hs l).2.2.2.2.2.1)
    (fun l => (hs l).2.2.2.2.2.2) (fun l => peak (hL l)) (fun l => bit3 (hL l)) hp d

end Cert.Proof.Block
end
-- ==== Proof.Block.lean ====
module

public import proofs.«01_k».proof.Proof.Gen.KernelIdeal.Frame
public import proofs.«01_k».proof.Proof.Lanes

@[expose] public section

set_option maxRecDepth 16384

noncomputable section

/-! What the kernel writes in one grid point, at an index, given what its input blocks hold. -/

namespace Cert.Proof.Block

open Cert.KernelIdeal Cert.KernelIdeal.Gen Idealize.ShloMosaic Cert.Proof.Maths Cert.Proof.Table

/-- Row `r` of the block of 2048 rows at grid point `t`, among all rows. -/
abbrev grow (t : Fin 2) (r : Fin 2048) : Fin 4096 := ⟨2048 * t + r, by omega⟩

/-- What the twelve input blocks hold at grid point `t`. -/
structure Holds (n : Net) (t : Fin 2) (x0 : Vec Ideal S2048x128 .f32) (x1 : Vec Ideal S2048x100 .f32) (x2 : Vec Ideal S228x256 .f32) (x3 : Vec Ideal S9x256 .f32) (x4 : Vec Ideal S256x256 .f32) (x5 : Vec Ideal S256x340 .f32) (x6 : Vec Ideal S1x340 .f32) (x7 : Vec Ideal S2048x320 .f32) (x8 : Vec Ideal S340x320 .f32) (x9 : Vec Ideal S2560x256 .f32) (x10 : Vec Ideal S256x256 .f32) (x11 : Vec Ideal S256x1 .f32) : Prop where
  z : ∀ r j, x0 (ix2 r j) = n.z (grow t r) j
  cond : ∀ r j, x1 (ix2 r j) = n.cond (grow t r) j
  W1 : ∀ j k, x2 (ix2 j k) = n.W1 j k
  b1 : ∀ k, x3 (ix2 0 k) = n.b1 k
  g1 : ∀ k, x3 (ix2 1 k) = n.g1 k
  be1 : ∀ k, x3 (ix2 2 k) = n.be1 k
  b2 : ∀ k, x3 (ix2 3 k) = n.b2 k
  g2 : ∀ k, x3 (ix2 4 k) = n.g2 k
  be2 : ∀ k, x3 (ix2 5 k) = n.be2 k
  bc1 : ∀ k, x3 (ix2 6 k) = n.bc1 k
  bc2 : ∀ k, x3 (ix2 7 k) = n.bc2 k
  bo : x3 (ix2 8 0) = n.bo
  W2 : ∀ j k, x4 (ix2 j k) = n.W2 j k
  Wb : ∀ h (g : Fin 20) (m : Fin 10), x5 (ix2 h ⟨32 * m + g, by omega⟩) = n.Wb g h m
  Wd : ∀ h (g : Fin 10) (m : Fin 10), x5 (ix2 h ⟨32 * m + (20 + g), by omega⟩) = n.Wd g h m
  Wa : ∀ h (g : Fin 20), x5 (ix2 h ⟨320 + g, by omega⟩) = n.Wa g h
  bb : ∀ (g : Fin 20) (m : Fin 10), x6 (ix2 0 ⟨32 * m + g, by omega⟩) = n.bb g m
  bd : ∀ (g : Fin 10) (m : Fin 10), x6 (ix2 0 ⟨32 * m + (20 + g), by omega⟩) = n.bd g m
  ba : ∀ (g : Fin 20), x6 (ix2 0 ⟨320 + g, by omega⟩) = n.ba g
  gc : ∀ r (g : Fin 20) (m : Fin 10), x7 (ix2 r ⟨32 * m + g, by omega⟩) = n.gc g (grow t r) m
  gd : ∀ r (g : Fin 10) (m : Fin 10), x7 (ix2 r ⟨32 * m + (20 + g), by omega⟩) = n.gd g (grow t r) m
  perm : ∀ (s : Fin 340) (d : Fin 320), x8 (ix2 s d) = if s.val = src d.val then 1 else 0
  Wc1 : ∀ j k, x9 (ix2 j k) = n.Wc1 j k
  Wc2 : ∀ j k, x10 (ix2 j k) = n.Wc2 j k
  Wo : ∀ j, x11 (ix2 j 0) = n.Wo j

theorem isq : (k0_pay2 (F := Ideal)) = Ideal.div 1 (Ideal.sqrt onePlus) := by
  pointwise [k0_pay2]
  rfl

variable {n : Net} {t : Fin 2} {x0 : Vec Ideal S2048x128 .f32} {x1 : Vec Ideal S2048x100 .f32} {x2 : Vec Ideal S228x256 .f32} {x3 : Vec Ideal S9x256 .f32} {x4 : Vec Ideal S256x256 .f32} {x5 : Vec Ideal S256x340 .f32} {x6 : Vec Ideal S1x340 .f32} {x7 : Vec Ideal S2048x320 .f32} {x8 : Vec Ideal S340x320 .f32} {x9 : Vec Ideal S2560x256 .f32} {x10 : Vec Ideal S256x256 .f32} {x11 : Vec Ideal S256x1 .f32}

variable (H : Holds n t x0 x1 x2 x3 x4 x5 x6 x7 x8 x9 x10 x11)
include H

theorem pre2 (r : Fin 2048) (k : Fin 256) : k0_pay52 x0 x1 x2 x3 x4 x5 x6 x7 x8 x9 x10 x11 (ix2 r k) = (∑ j, n.h1 (grow t r) j * n.W2 j k) + n.b2 k := by
  pointwise [k0_pay52, k0_pay4]
  simp only [isq, mul_isq, H.z, H.cond, H.W1, H.b1, H.g1, H.be1, H.W2, H.b2, Net.h1, bnRelu]

/-- The heads' and logits' affine layer. -/
theorem affine (r : Fin 2048) (k : Fin 340) :
    k0_pay5 k0_pay2 (k0_pay51 x0 x1 x2 x3 x4 x5 x6 x7 x8 x9 x10 x11) (k0_pay52 x0 x1 x2 x3 x4 x5 x6 x7 x8 x9 x10 x11) (View.ld x3 r0_10) (View.ld x5 r0_11) (View.ld x6 r0_12) (ix2 r k)
      = (∑ h, n.h2 (grow t r) h * x5 (ix2 h k)) + x6 (ix2 0 k) := by
  pointwise [k0_pay5, k0_pay51, k0_pay3]
  simp only [pre2 H, isq, mul_isq, H.g2, H.be2, Net.h2, bnRelu]

theorem heads (r : Fin 2048) (g : Fin 20) : k0_pay53 x0 x1 x2 x3 x4 x5 x6 x7 x8 x9 x10 x11 (ix2 r g) = n.alpha (grow t r) g := by
  have e := affine H r ⟨320 + g, by omega⟩
  simp only [H.Wa, H.ba] at e
  pointwise [k0_pay53, k0_pay6]
  rw [e]; rfl

/-- The logits of lane `l`. -/
def logits (x3 : Vec Ideal S9x256 .f32) (a : FVec Ideal S1x256 .f32) (b : FVec Ideal S2048x256 .f32) (x5 : Vec Ideal S256x340 .f32) (x6 : Vec Ideal S1x340 .f32) (x7 : Vec Ideal S2048x320 .f32) (r : Fin 2048) (l : Fin 32) (m : Fin 10) : EReal :=
  k0_pay7 k0_pay2 a b (View.ld x3 r0_10) (View.ld x5 r0_11) (View.ld x6 r0_12) (View.ld x7 r0_13) (ix2 r ⟨32 * m + l, by omega⟩)

omit H in
theorem lane (r : Fin 2048) (l : Fin 32) :
    Lane (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11) (k0_pay57 x0 x1 x2 x3 x4 x5 x6 x7 x8 x9 x10 x11) (k0_pay58 x0 x1 x2 x3 x4 x5 x6 x7 x8 x9 x10 x11) (k0_pay59 x0 x1 x2 x3 x4 x5 x6 x7 x8 x9 x10 x11) (k0_pay60 x0 x1 x2 x3 x4 x5 x6 x7 x8 x9 x10 x11) (k0_pay61 x0 x1 x2 x3 x4 x5 x6 x7 x8 x9 x10 x11) (k0_pay62 x0 x1 x2 x3 x4 x5 x6 x7 x8 x9 x10 x11) (k0_pay63 x0 x1 x2 x3 x4 x5 x6 x7 x8 x9 x10 x11) (k0_pay64 x0 x1 x2 x3 x4 x5 x6 x7 x8 x9 x10 x11)
      (logits x3 (k0_pay51 x0 x1 x2 x3 x4 x5 x6 x7 x8 x9 x10 x11) (k0_pay52 x0 x1 x2 x3 x4 x5 x6 x7 x8 x9 x10 x11) x5 x6 x7 r l) (ix2 r l) := by
  constructor
  all_goals try rw [expo]
  all_goals try rw [← top_chain]
  all_goals unfold logits
  all_goals pointwise [k0_pay54, k0_pay55, k0_pay56, k0_pay57, k0_pay58, k0_pay59, k0_pay60, k0_pay61, k0_pay62, k0_pay63, k0_pay64, k0_pay8, k0_pay9, k0_pay10, k0_pay11, k0_pay12, k0_pay13, k0_pay14, k0_pay15, k0_pay16, k0_pay17, k0_pay18, k0_pay19, k0_pay20, k0_pay21]

theorem logitC (r : Fin 2048) (g : Fin 20) :
    logits x3 (k0_pay51 x0 x1 x2 x3 x4 x5 x6 x7 x8 x9 x10 x11) (k0_pay52 x0 x1 x2 x3 x4 x5 x6 x7 x8 x9 x10 x11) x5 x6 x7 r ⟨g, by omega⟩ = n.logitC (grow t r) g := by
  funext m
  have e := affine H r ⟨32 * m + g, by omega⟩
  simp only [H.Wb, H.bb] at e
  unfold logits Net.logitC
  pointwise [k0_pay7]
  rw [e, H.gc]

theorem logitD (r : Fin 2048) (g : Fin 10) :
    logits x3 (k0_pay51 x0 x1 x2 x3 x4 x5 x6 x7 x8 x9 x10 x11) (k0_pay52 x0 x1 x2 x3 x4 x5 x6 x7 x8 x9 x10 x11) x5 x6 x7 r ⟨20 + g, by omega⟩ = n.logitD (grow t r) g := by
  funext m
  have e := affine H r ⟨32 * m + (20 + g), by omega⟩
  simp only [H.Wd, H.bd] at e
  unfold logits Net.logitD
  pointwise [k0_pay7]
  rw [e, H.gd]

/-- The permuted row is the network's row. -/
theorem mix_row (r : Fin 2048) (d : Fin 320) :
    mix (logits x3 (k0_pay51 x0 x1 x2 x3 x4 x5 x6 x7 x8 x9 x10 x11) (k0_pay52 x0 x1 x2 x3 x4 x5 x6 x7 x8 x9 x10 x11) x5 x6 x7 r) (n.alpha (grow t r)) ⟨src d, src_lt d⟩
      = n.row (grow t r) d := by
  unfold Net.row
  by_cases h : d.val < 220
  · rw [dif_pos h]
    by_cases h0 : d.val % 11 = 0
    · rw [if_pos h0]
      exact (mix_head _ _ ⟨d.val / 11, by omega⟩ _ (by simp only [src, if_pos h, if_pos h0])).symm
    · rw [if_neg h0, ← logitC H]
      exact (mix_lane _ _ ⟨d.val % 11 - 1, by omega⟩ ⟨d.val / 11, by omega⟩ _ (by simp only [src, if_pos h, if_neg h0])).symm
  · rw [dif_neg h, ← logitD H]
    exact (mix_lane _ _ ⟨(d.val - 220) % 10, by omega⟩ ⟨20 + (d.val - 220) / 10, by omega⟩ _ (by simp only [src, if_neg h, Nat.add_assoc])).symm

/-- The rows the kernel writes in the block. -/
abbrev rows (x0 : Vec Ideal S2048x128 .f32) (x1 : Vec Ideal S2048x100 .f32) (x2 : Vec Ideal S228x256 .f32) (x3 : Vec Ideal S9x256 .f32) (x4 : Vec Ideal S256x256 .f32) (x5 : Vec Ideal S256x340 .f32) (x6 : Vec Ideal S1x340 .f32) (x7 : Vec Ideal S2048x320 .f32) (x8 : Vec Ideal S340x320 .f32) (x9 : Vec Ideal S2560x256 .f32) (x10 : Vec Ideal S256x256 .f32) (x11 : Vec Ideal S256x1 .f32) : FVec Ideal S2048x320 .f32 :=
  k0_pay46 (k0_pay53 x0 x1 x2 x3 x4 x5 x6 x7 x8 x9 x10 x11) (k0_pay65 x0 x1 x2 x3 x4 x5 x6 x7 x8 x9 x10 x11) (k0_pay66 x0 x1 x2 x3 x4 x5 x6 x7 x8 x9 x10 x11) (k0_pay67 x0 x1 x2 x3 x4 x5 x6 x7 x8 x9 x10 x11) (k0_pay68 x0 x1 x2 x3 x4 x5 x6 x7 x8 x9 x10 x11) (k0_pay69 x0 x1 x2 x3 x4 x5 x6 x7 x8 x9 x10 x11) (k0_pay70 x0 x1 x2 x3 x4 x5 x6 x7 x8 x9 x10 x11) (k0_pay71 x0 x1 x2 x3 x4 x5 x6 x7 x8 x9 x10 x11) (k0_pay72 x0 x1 x2 x3 x4 x5 x6 x7 x8 x9 x10 x11) (k0_pay73 x0 x1 x2 x3 x4 x5 x6 x7 x8 x9 x10 x11) (k0_pay74 x0 x1 x2 x3 x4 x5 x6 x7 x8 x9 x10 x11) (k0_pay75 x0 x1 x2 x3 x4 x5 x6 x7 x8 x9 x10 x11) (k0_pay76 x0 x1 x2 x3 x4 x5 x6 x7 x8 x9 x10 x11) (View.ld x8 r0_14)

theorem rows_at (r : Fin 2048) (d : Fin 320) : rows x0 x1 x2 x3 x4 x5 x6 x7 x8 x9 x10 x11 (ix2 r d) = n.row (grow t r) d :=
  (permuted (fun l => lane r l) (heads H r) (fun s d => by pointwise; exact H.perm s d) d).trans (mix_row H r d)

theorem out12_at (r : Fin 2048) (d : Fin 320) : out0_12 x0 x1 x2 x3 x4 x5 x6 x7 x8 x9 x10 x11 (ix2 r d) = n.row (grow t r) d := by
  unfold out0_12
  rw [View.canon_unit_zero (by funext d; fin_cases d <;> rfl)]
  exact rows_at H r d

/-- The critic's packs at grid point `t`. -/
abbrev gpack (t : Fin 2) (r : Fin 256) : Fin 512 := ⟨256 * t + r, by omega⟩

omit H in
/-- One row of a pack against its slab of the critic's first weight. -/
theorem slab (r : Fin 256) (k : Fin 256) (q : Fin 8) (i : Fin 2048) (j : Fin 320 → Fin 2560)
    (hi : i.val = 8 * r.val + q.val) (hj : ∀ d, (j d).val = 320 * q.val + d.val) :
    ∑ d, n.row (grow t i) d * n.Wc1 (j d) k
      = ∑ d : Fin 320, n.row ⟨8 * gpack t r + q, by omega⟩ d * n.Wc1 ⟨320 * q + d, by omega⟩ k := by
  have e : grow t i = ⟨8 * gpack t r + q, by omega⟩ := Fin.ext (by simp only [hi]; omega)
  rw [e]
  exact Finset.sum_congr rfl fun d _ => by rw [show j d = ⟨320 * q + d, by omega⟩ from Fin.ext (hj d)]

theorem c1_at (r : Fin 256) (k : Fin 256) :
    k0_pay50 (k0_pay47 (k0_pay53 x0 x1 x2 x3 x4 x5 x6 x7 x8 x9 x10 x11) (k0_pay65 x0 x1 x2 x3 x4 x5 x6 x7 x8 x9 x10 x11) (k0_pay66 x0 x1 x2 x3 x4 x5 x6 x7 x8 x9 x10 x11) (k0_pay67 x0 x1 x2 x3 x4 x5 x6 x7 x8 x9 x10 x11) (k0_pay68 x0 x1 x2 x3 x4 x5 x6 x7 x8 x9 x10 x11) (k0_pay69 x0 x1 x2 x3 x4 x5 x6 x7 x8 x9 x10 x11) (k0_pay70 x0 x1 x2 x3 x4 x5 x6 x7 x8 x9 x10 x11) (k0_pay71 x0 x1 x2 x3 x4 x5 x6 x7 x8 x9 x10 x11) (k0_pay72 x0 x1 x2 x3 x4 x5 x6 x7 x8 x9 x10 x11) (k0_pay73 x0 x1 x2 x3 x4 x5 x6 x7 x8 x9 x10 x11) (k0_pay74 x0 x1 x2 x3 x4 x5 x6 x7 x8 x9 x10 x11) (k0_pay75 x0 x1 x2 x3 x4 x5 x6 x7 x8 x9 x10 x11) (k0_pay76 x0 x1 x2 x3 x4 x5 x6 x7 x8 x9 x10 x11) (View.ld x8 r0_14)) (k0_pay48 (k0_pay53 x0 x1 x2 x3 x4 x5 x6 x7 x8 x9 x10 x11) (k0_pay65 x0 x1 x2 x3 x4 x5 x6 x7 x8 x9 x10 x11) (k0_pay66 x0 x1 x2 x3 x4 x5 x6 x7 x8 x9 x10 x11) (k0_pay67 x0 x1 x2 x3 x4 x5 x6 x7 x8 x9 x10 x11) (k0_pay68 x0 x1 x2 x3 x4 x5 x6 x7 x8 x9 x10 x11) (k0_pay69 x0 x1 x2 x3 x4 x5 x6 x7 x8 x9 x10 x11) (k0_pay70 x0 x1 x2 x3 x4 x5 x6 x7 x8 x9 x10 x11) (k0_pay71 x0 x1 x2 x3 x4 x5 x6 x7 x8 x9 x10 x11) (k0_pay72 x0 x1 x2 x3 x4 x5 x6 x7 x8 x9 x10 x11) (k0_pay73 x0 x1 x2 x3 x4 x5 x6 x7 x8 x9 x10 x11) (k0_pay74 x0 x1 x2 x3 x4 x5 x6 x7 x8 x9 x10 x11) (k0_pay75 x0 x1 x2 x3 x4 x5 x6 x7 x8 x9 x10 x11) (k0_pay76 x0 x1 x2 x3 x4 x5 x6 x7 x8 x9 x10 x11) (View.ld x8 r0_14) (View.ld x9 r0_15) (View.ld x9 r0_16)) (k0_pay49 (k0_pay53 x0 x1 x2 x3 x4 x5 x6 x7 x8 x9 x10 x11) (k0_pay65 x0 x1 x2 x3 x4 x5 x6 x7 x8 x9 x10 x11) (k0_pay66 x0 x1 x2 x3 x4 x5 x6 x7 x8 x9 x10 x11) (k0_pay67 x0 x1 x2 x3 x4 x5 x6 x7 x8 x9 x10 x11) (k0_pay68 x0 x1 x2 x3 x4 x5 x6 x7 x8 x9 x10 x11) (k0_pay69 x0 x1 x2 x3 x4 x5 x6 x7 x8 x9 x10 x11) (k0_pay70 x0 x1 x2 x3 x4 x5 x6 x7 x8 x9 x10 x11) (k0_pay71 x0 x1 x2 x3 x4 x5 x6 x7 x8 x9 x10 x11) (k0_pay72 x0 x1 x2 x3 x4 x5 x6 x7 x8 x9 x10 x11) (k0_pay73 x0 x1 x2 x3 x4 x5 x6 x7 x8 x9 x10 x11) (k0_pay74 x0 x1 x2 x3 x4 x5 x6 x7 x8 x9 x10 x11) (k0_pay75 x0 x1 x2 x3 x4 x5 x6 x7 x8 x9 x10 x11) (k0_pay76 x0 x1 x2 x3 x4 x5 x6 x7 x8 x9 x10 x11) (View.ld x8 r0_14)) (View.ld x9 r0_17) (View.ld x9 r0_18) (View.ld x9 r0_19) (View.ld x9 r0_20) (View.ld x9 r0_21) (View.ld x9 r0_22) (View.ld x3 r0_23) (ix2 r k)
      = n.c1 (gpack t r) k := by
  have e := rows_at H
  unfold rows at e
  pointwise [k0_pay50, k0_pay47, k0_pay48, k0_pay49]
  simp only [e, H.Wc1, H.bc1]
  unfold Net.c1
  rw [← sum_eight]
  refine congrArg leaky (congrArg₂ (· + ·) (congrArg₂ (· + ·) (congrArg₂ (· + ·) (congrArg₂ (· + ·) (congrArg₂ (· + ·) (congrArg₂ (· + ·) (congrArg₂ (· + ·) (congrArg₂ (· + ·) (?_) ?_) ?_) ?_) ?_) ?_) ?_) ?_) rfl)
  · exact slab r k 0 _ _ (by simp [Nat.mul_comm]) (by simp)
  · exact slab r k 1 _ _ (by simp; omega) (by simp)
  · exact slab r k 2 _ _ (by simp; omega) (by simp)
  · exact slab r k 3 _ _ (by simp; omega) (by simp)
  · exact slab r k 4 _ _ (by simp; omega) (by simp)
  · exact slab r k 5 _ _ (by simp; omega) (by simp)
  · exact slab r k 6 _ _ (by simp; omega) (by simp)
  · exact slab r k 7 _ _ (by simp; omega) (by simp)

theorem out13_at (r : Fin 256) : out0_13 x0 x1 x2 x3 x4 x5 x6 x7 x8 x9 x10 x11 (ix2 r 0) = n.score (gpack t r) := by
  unfold out0_13
  rw [View.canon_unit_zero (by funext d; fin_cases d <;> rfl)]
  have e := c1_at H r
  pointwise [k0_pay1]
  simp only [e, H.Wc2, H.bc2, H.Wo, H.bo]
  rfl

end Cert.Proof.Block
end
-- ==== Proof.Equation.lean ====
module

public import proofs.«01_k».proof.Proof.Gen.KernelIdeal.Value
public import proofs.«01_k».proof.Proof.Host
public import proofs.«01_k».proof.Proof.Block
public import Idealize.ShloMosaic.Lib.Pipeline.ValueKit

@[expose] public section

set_option maxRecDepth 16384

noncomputable section

/-! The two arrays the kernel leaves, as functions of its arguments. -/

namespace Cert.Proof.Equation

open Cert.KernelIdeal Cert.KernelIdeal.Gen Idealize.ShloMosaic Idealize.ShloMosaic.TcCoe Cert.Proof.Maths Cert.Proof.Block Cert.Proof.Host

variable (m : (ℓ : Loc nD τ sig) → Buf (Elt Ideal) ℓ) (c : Dev nD)

/-- The grid point, as a number below two. -/
abbrev pt (t : Fin cfg0.N) : Fin 2 := ⟨t.val, t.isLt⟩

/-- Every window's block index. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![0, 0] ∧ win0_9.index t = ![0, 0] ∧ win0_10.index t = ![0, 0] ∧ win0_11.index t = ![0, 0] ∧ win0_12.index t = ![t.val, 0] ∧ win0_13.index t = ![t.val, 0] :=
  (by decide +kernel : ∀ t : Fin grid0.N, _)

theorem rd0 (t : Fin cfg0.N) (X : FVec Ideal S4096x128 .f32) (r : Fin 2048) (k : Fin 128) : ((cfg0.win 0).blk t).view.read (Elt Ideal) X (ix2 r k) = X (ix2 (grow (pt t) r) k) := by
  blk_ext [idx t]

theorem rd1 (t : Fin cfg0.N) (X : FVec Ideal S4096x100 .f32) (r : Fin 2048) (k : Fin 100) : ((cfg0.win 1).blk t).view.read (Elt Ideal) X (ix2 r k) = X (ix2 (grow (pt t) r) k) := by
  blk_ext [idx t]

theorem rd2 (t : Fin cfg0.N) (X : FVec Ideal S228x256 .f32) (r : Fin 228) (k : Fin 256) : ((cfg0.win 2).blk t).view.read (Elt Ideal) X (ix2 r k) = X (ix2 r k) := by
  blk_ext [idx t]

theorem rd3 (t : Fin cfg0.N) (X : FVec Ideal S9x256 .f32) (r : Fin 9) (k : Fin 256) : ((cfg0.win 3).blk t).view.read (Elt Ideal) X (ix2 r k) = X (ix2 r k) := by
  blk_ext [idx t]

theorem rd4 (t : Fin cfg0.N) (X : FVec Ideal S256x256 .f32) (r : Fin 256) (k : Fin 256) : ((cfg0.win 4).blk t).view.read (Elt Ideal) X (ix2 r k) = X (ix2 r k) := by
  blk_ext [idx t]

theorem rd5 (t : Fin cfg0.N) (X : FVec Ideal S256x340 .f32) (r : Fin 256) (k : Fin 340) : ((cfg0.win 5).blk t).view.read (Elt Ideal) X (ix2 r k) = X (ix2 r k) := by
  blk_ext [idx t]

theorem rd6 (t : Fin cfg0.N) (X : FVec Ideal S1x340 .f32) (r : Fin 1) (k : Fin 340) : ((cfg0.win 6).blk t).view.read (Elt Ideal) X (ix2 r k) = X (ix2 r k) := by
  blk_ext [idx t]

theorem rd7 (t : Fin cfg0.N) (X : FVec Ideal S4096x320 .f32) (r : Fin 2048) (k : Fin 320) : ((cfg0.win 7).blk t).view.read (Elt Ideal) X (ix2 r k) = X (ix2 (grow (pt t) r) k) := by
  blk_ext [idx t]

theorem rd8 (t : Fin cfg0.N) (X : FVec Ideal S340x320 .f32) (r : Fin 340) (k : Fin 320) : ((cfg0.win 8).blk t).view.read (Elt Ideal) X (ix2 r k) = X (ix2 r k) := by
  blk_ext [idx t]

theorem rd9 (t : Fin cfg0.N) (X : FVec Ideal S2560x256 .f32) (r : Fin 2560) (k : Fin 256) : ((cfg0.win 9).blk t).view.read (Elt Ideal) X (ix2 r k) = X (ix2 r k) := by
  blk_ext [idx t]

theorem rd10 (t : Fin cfg0.N) (X : FVec Ideal S256x256 .f32) (r : Fin 256) (k : Fin 256) : ((cfg0.win 10).blk t).view.read (Elt Ideal) X (ix2 r k) = X (ix2 r k) := by
  blk_ext [idx t]

theorem rd11 (t : Fin cfg0.N) (X : FVec Ideal S256x1 .f32) (r : Fin 256) (k : Fin 1) : ((cfg0.win 11).blk t).view.read (Elt Ideal) X (ix2 r k) = X (ix2 r k) := by
  blk_ext [idx t]

/-- The input blocks at grid point `t` hold the network's inputs. -/
theorem holds (t : Fin cfg0.N) : Holds (net m c) (pt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) where
  z r k := (rd0 t _ r k).trans (congrFun (V_main_arg0 m c) _)
  cond r k := (rd1 t _ r k).trans (congrFun (V_main_arg1 m c) _)
  W1 r k := (rd2 t _ r k).trans (congrFun (V_main_arg2 m c) _)
  b1 k := (rd3 t _ _ _).trans (b1_at m c k)
  g1 k := (rd3 t _ _ _).trans (g1_at m c k)
  be1 k := (rd3 t _ _ _).trans (be1_at m c k)
  b2 k := (rd3 t _ _ _).trans (b2_at m c k)
  g2 k := (rd3 t _ _ _).trans (g2_at m c k)
  be2 k := (rd3 t _ _ _).trans (be2_at m c k)
  bc1 k := (rd3 t _ _ _).trans (bc1_at m c k)
  bc2 k := (rd3 t _ _ _).trans (bc2_at m c k)
  W2 r k := (rd4 t _ r k).trans (congrFun (V_main_arg6 m c) _)
  Wb h g j := (rd5 t _ _ _).trans (Wb_at m c h g j)
  Wd h g j := (rd5 t _ _ _).trans (Wd_at m c h g j)
  Wa h g := (rd5 t _ _ _).trans (Wa_at m c h g)
  bb g j := (rd6 t _ _ _).trans (bb_at m c g j)
  bd g j := (rd6 t _ _ _).trans (bd_at m c g j)
  ba g := (rd6 t _ _ _).trans (ba_at m c g)
  gc r g j := (rd7 t _ _ _).trans (gc_at m c (grow (pt t) r) g j)
  gd r g j := (rd7 t _ _ _).trans (gd_at m c (grow (pt t) r) g j)
  perm s d := (rd8 t _ _ _).trans (perm_at m c s d)
  Wc1 r k := (rd9 t _ r k).trans (congrFun (V_main_arg16 m c) _)
  Wc2 r k := (rd10 t _ r k).trans (congrFun (V_main_arg18 m c) _)
  bo := (rd3 t _ _ _).trans (bo_at m c)
  Wo r := (rd11 t _ r 0).trans (congrFun (V_main_arg20 m c) _)

/-- The first array the kernel leaves. -/
theorem rows_eq : (dats m 0 c).arrAt 12 cfg0.N = fun i : S4096x320.Idx => (net m c).row (i 0) (i 1) := by
  refine (dats m 0 c).arrAt_eq_of_covers 12 _ (by decide +kernel) fun t hf y => ?_
  blk_simp
  rw [after0_12]
  obtain ⟨r, d, rfl⟩ : ∃ (r : Fin 2048) (d : Fin 320), y = (ix2 r d : S2048x320.Idx) :=
    ⟨y 0, y 1, by funext a; match a with | ⟨0, _⟩ => rfl | ⟨1, _⟩ => rfl⟩
  refine (out12_at (holds m c t) r d).trans ?_
  congr 1
  · apply Fin.ext
    blk_simp [idx t]
    simp [Nat.mul_comm]
  · apply Fin.ext
    blk_simp [idx t]

/-- The second array the kernel leaves. -/
theorem scores_eq : (dats m 0 c).arrAt 13 cfg0.N = fun i : S512x1.Idx => (net m c).score (i 0) := by
  refine (dats m 0 c).arrAt_eq_of_covers 13 _ (by decide +kernel) fun t hf y => ?_
  blk_simp
  rw [after0_13]
  obtain ⟨r, rfl⟩ : ∃ r : Fin 256, y = (ix2 r 0 : S256x1.Idx) :=
    ⟨y 0, by funext a; match a with | ⟨0, _⟩ => rfl | ⟨1, _⟩ => exact Subsingleton.elim (α := Fin 1) _ _⟩
  refine (out13_at (holds m c t) r).trans ?_
  congr 1
  apply Fin.ext
  blk_simp [idx t]
  simp [Nat.mul_comm]

end Cert.Proof.Equation
end
-- ==== Proof.RefValue.lean ====
module

public import proofs.«01_k».proof.Proof.Gen.ReferenceIdeal.Read
public import proofs.«01_k».proof.Proof.Maths

@[expose] public section

set_option maxRecDepth 16384

noncomputable section

/-! The reference's two results at an index are the network's rows and scores. -/

namespace Cert.Proof.RefValue

open Cert.ReferenceIdeal Cert.ReferenceIdeal.Gen Cert.ReferenceIdeal.Read Idealize.ShloMosaic Cert.Proof.Maths

/-- The arrays hold the network's inputs. -/
structure Args (n : Net) (x0 : (⟨S4096x128, .f32⟩ : BufTy).Contents (Elt Ideal)) (x1 : (⟨S4096x100, .f32⟩ : BufTy).Contents (Elt Ideal)) (x2 : (⟨S228x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S20x256x1, .f32⟩ : BufTy).Contents (Elt Ideal)) (x11 : (⟨S20x1, .f32⟩ : BufTy).Contents (Elt Ideal)) (x12 : (⟨S20x256x10, .f32⟩ : BufTy).Contents (Elt Ideal)) (x13 : (⟨S20x10, .f32⟩ : BufTy).Contents (Elt Ideal)) (x14 : (⟨S10x256x10, .f32⟩ : BufTy).Contents (Elt Ideal)) (x15 : (⟨S10x10, .f32⟩ : BufTy).Contents (Elt Ideal)) (x16 : (⟨S2560x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256x1, .f32⟩ : BufTy).Contents (Elt Ideal)) (x21 : (⟨S1, .f32⟩ : BufTy).Contents (Elt Ideal)) (x22 : (⟨S20x4096x10, .f32⟩ : BufTy).Contents (Elt Ideal)) (x23 : (⟨S10x4096x10, .f32⟩ : BufTy).Contents (Elt Ideal)) : Prop where
  z : ∀ b j, x0 (ix2 b j) = n.z b j
  cond : ∀ b j, x1 (ix2 b j) = n.cond b j
  W1 : ∀ j k, x2 (ix2 j k) = n.W1 j k
  b1 : ∀ k, x3 (ix1 k) = n.b1 k
  g1 : ∀ k, x4 (ix1 k) = n.g1 k
  be1 : ∀ k, x5 (ix1 k) = n.be1 k
  W2 : ∀ j k, x6 (ix2 j k) = n.W2 j k
  b2 : ∀ k, x7 (ix1 k) = n.b2 k
  g2 : ∀ k, x8 (ix1 k) = n.g2 k
  be2 : ∀ k, x9 (ix1 k) = n.be2 k
  Wa : ∀ g h, x10 (ix3 g h 0) = n.Wa g h
  ba : ∀ g, x11 (ix2 g 0) = n.ba g
  Wb : ∀ g h m, x12 (ix3 g h m) = n.Wb g h m
  bb : ∀ g m, x13 (ix2 g m) = n.bb g m
  Wd : ∀ g h m, x14 (ix3 g h m) = n.Wd g h m
  bd : ∀ g m, x15 (ix2 g m) = n.bd g m
  Wc1 : ∀ j k, x16 (ix2 j k) = n.Wc1 j k
  bc1 : ∀ k, x17 (ix1 k) = n.bc1 k
  Wc2 : ∀ j k, x18 (ix2 j k) = n.Wc2 j k
  bc2 : ∀ k, x19 (ix1 k) = n.bc2 k
  Wo : ∀ j, x20 (ix2 j 0) = n.Wo j
  bo : x21 (ix1 0) = n.bo
  gc : ∀ g b m, gumbel (x22 (ix3 g b m)) = n.gc g b m
  gd : ∀ g b m, gumbel (x23 (ix3 g b m)) = n.gd g b m

/-- The reference's indicator: the comparison's bit read as a number. -/
theorem bit_word (P : Prop) [Decidable P] :
    FloatOps.uitofp (F := Ideal) .f32 (BitVec.ofBool (decide P)) = if P then 1 else 0 := by
  by_cases h : P <;> simp [h, FloatOps.uitofp]

variable {n : Net} {x0 : (⟨S4096x128, .f32⟩ : BufTy).Contents (Elt Ideal)} {x1 : (⟨S4096x100, .f32⟩ : BufTy).Contents (Elt Ideal)} {x2 : (⟨S228x256, .f32⟩ : BufTy).Contents (Elt Ideal)} {x3 : (⟨S256, .f32⟩ : BufTy).Contents (Elt Ideal)} {x4 : (⟨S256, .f32⟩ : BufTy).Contents (Elt Ideal)} {x5 : (⟨S256, .f32⟩ : BufTy).Contents (Elt Ideal)} {x6 : (⟨S256x256, .f32⟩ : BufTy).Contents (Elt Ideal)} {x7 : (⟨S256, .f32⟩ : BufTy).Contents (Elt Ideal)} {x8 : (⟨S256, .f32⟩ : BufTy).Contents (Elt Ideal)} {x9 : (⟨S256, .f32⟩ : BufTy).Contents (Elt Ideal)} {x10 : (⟨S20x256x1, .f32⟩ : BufTy).Contents (Elt Ideal)} {x11 : (⟨S20x1, .f32⟩ : BufTy).Contents (Elt Ideal)} {x12 : (⟨S20x256x10, .f32⟩ : BufTy).Contents (Elt Ideal)} {x13 : (⟨S20x10, .f32⟩ : BufTy).Contents (Elt Ideal)} {x14 : (⟨S10x256x10, .f32⟩ : BufTy).Contents (Elt Ideal)} {x15 : (⟨S10x10, .f32⟩ : BufTy).Contents (Elt Ideal)} {x16 : (⟨S2560x256, .f32⟩ : BufTy).Contents (Elt Ideal)} {x17 : (⟨S256, .f32⟩ : BufTy).Contents (Elt Ideal)} {x18 : (⟨S256x256, .f32⟩ : BufTy).Contents (Elt Ideal)} {x19 : (⟨S256, .f32⟩ : BufTy).Contents (Elt Ideal)} {x20 : (⟨S256x1, .f32⟩ : BufTy).Contents (Elt Ideal)} {x21 : (⟨S1, .f32⟩ : BufTy).Contents (Elt Ideal)} {x22 : (⟨S20x4096x10, .f32⟩ : BufTy).Contents (Elt Ideal)} {x23 : (⟨S10x4096x10, .f32⟩ : BufTy).Contents (Elt Ideal)}

variable (A : Args n x0 x1 x2 x3 x4 x5 x6 x7 x8 x9 x10 x11 x12 x13 x14 x15 x16 x17 x18 x19 x20 x21 x22 x23)
include A

theorem h1_at (b : Fin 4096) (k : Fin 256) : val_main_v15 (F := Ideal) x0 x1 x2 x3 x4 x5 (ix2 b k) = n.h1 b k := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_call0_v0, val_main_call0_cst]
  simp only [A.z, A.cond, A.W1, A.b1, A.g1, A.be1]
  rfl

theorem h2_at (b : Fin 4096) (k : Fin 256) : val_main_v30 (F := Ideal) x0 x1 x2 x3 x4 x5 x6 x7 x8 x9 (ix2 b k) = n.h2 b k := by
  have e := h1_at A b
  pointwise [val_main_v30, val_main_v29, val_main_v28, val_main_v27, val_main_v26, val_main_v25, val_main_v24, val_main_v23, val_main_v22, val_main_v21, val_main_v20, val_main_v19, val_main_v18, val_main_v17, val_main_v16, val_main_cst_0, val_main_call1_v0, val_main_call1_cst]
  simp only [e, A.W2, A.b2, A.g2, A.be2]
  rfl

theorem alpha_at (b : Fin 4096) (g : Fin 20) : val_main_v35 (F := Ideal) x0 x1 x2 x3 x4 x5 x6 x7 x8 x9 x10 x11 (ix3 b g 0) = n.alpha b g := by
  have e := h2_at A b
  pointwise [val_main_v35, val_main_v34, val_main_v33, val_main_v32, val_main_v31]
  simp only [e, A.Wa, A.ba]
  rfl

theorem logitC_at (b : Fin 4096) (g : Fin 20) (m : Fin 10) : val_main_v51 (F := Ideal) x0 x1 x2 x3 x4 x5 x6 x7 x8 x9 x12 x13 x22 (ix3 b g m) = n.logitC b g m := by
  have e := h2_at A b
  have eg := A.gc
  unfold gumbel at eg
  pointwise [val_main_v51, val_main_v50, val_main_v49, val_main_v48, val_main_v47, val_main_v46, val_main_v45, val_main_v44, val_main_v43, val_main_v42, val_main_v41, val_main_v40, val_main_v39, val_main_v38, val_main_v37, val_main_v36, val_main_cst_1, val_main_cst_2, val_main_cst_3]
  simp only [e, A.Wb, A.bb, eg]
  rfl

theorem logitD_at (b : Fin 4096) (g : Fin 10) (m : Fin 10) : val_main_v85 (F := Ideal) x0 x1 x2 x3 x4 x5 x6 x7 x8 x9 x14 x15 x23 (ix3 b g m) = n.logitD b g m := by
  have e := h2_at A b
  have eg := A.gd
  unfold gumbel at eg
  pointwise [val_main_v85, val_main_v84, val_main_v83, val_main_v82, val_main_v81, val_main_v80, val_main_v79, val_main_v78, val_main_v77, val_main_v76, val_main_v75, val_main_v74, val_main_v73, val_main_v72, val_main_v71, val_main_v70, val_main_cst_8, val_main_cst_9, val_main_cst_10]
  simp only [e, A.Wd, A.bd, eg]
  rfl

theorem softC_at (b : Fin 4096) (g : Fin 20) (m : Fin 10) : val_main_v62 (F := Ideal) x0 x1 x2 x3 x4 x5 x6 x7 x8 x9 x12 x13 x22 (ix3 b g m) = soft (n.logitC b g) m := by
  have e := logitC_at A b g
  pointwise [val_main_v62, val_main_v61, val_main_v60, val_main_v59, val_main_v58, val_main_v57, val_main_v56, val_main_v55, val_main_v54, val_main_v53, val_main_v52, val_main_cst_4, val_main_cst_5, val_main_cst_6]
  simp only [e, ofBits_negInf, bot_sup_eq]
  rfl

theorem softD_at (b : Fin 4096) (g : Fin 10) (m : Fin 10) : val_main_v96 (F := Ideal) x0 x1 x2 x3 x4 x5 x6 x7 x8 x9 x14 x15 x23 (ix3 b g m) = soft (n.logitD b g) m := by
  have e := logitD_at A b g
  pointwise [val_main_v96, val_main_v95, val_main_v94, val_main_v93, val_main_v92, val_main_v91, val_main_v90, val_main_v89, val_main_v88, val_main_v87, val_main_v86, val_main_cst_11, val_main_cst_12, val_main_cst_13]
  simp only [e, ofBits_negInf, bot_sup_eq]
  rfl

theorem hotC_at (b : Fin 4096) (g : Fin 20) (m : Fin 10) : val_main_v69 (F := Ideal) x0 x1 x2 x3 x4 x5 x6 x7 x8 x9 x12 x13 x22 (ix3 b g m) = hot (n.logitC b g) m := by
  have e := softC_at A b g
  pointwise [val_main_v69, val_main_v68, val_main_v67, val_main_v66, val_main_v65, val_main_v64, val_main_v63, val_main_cst_7]
  simp only [e, ofBits_negInf, bit_word]
  rfl

theorem hotD_at (b : Fin 4096) (g : Fin 10) (m : Fin 10) : val_main_v103 (F := Ideal) x0 x1 x2 x3 x4 x5 x6 x7 x8 x9 x14 x15 x23 (ix3 b g m) = hot (n.logitD b g) m := by
  have e := softD_at A b g
  pointwise [val_main_v103, val_main_v102, val_main_v101, val_main_v100, val_main_v99, val_main_v98, val_main_v97, val_main_cst_14]
  simp only [e, ofBits_negInf, bit_word]
  rfl

theorem row_at (b : Fin 4096) (d : Fin 320) : val_main_v107 (F := Ideal) x0 x1 x2 x3 x4 x5 x6 x7 x8 x9 x10 x11 x12 x13 x14 x15 x22 x23 (ix2 b d) = n.row b d := by
  have ea := alpha_at A b
  have ec := hotC_at A b
  have ed := hotD_at A b
  pointwise [val_main_v107, val_main_v106, val_main_v105, val_main_v104]
  unfold Net.row
  by_cases h : d.val < 220
  · rw [dif_pos h, dif_pos h]
    by_cases h0 : d.val % 11 = 0
    · rw [dif_pos (by omega), if_pos h0, ← ea]
      congr 2
      exact Fin.ext h0
    · rw [dif_neg (by omega), if_neg h0, ec]
  · rw [dif_neg h, dif_neg h, ed]

theorem c1_at (p : Fin 512) (k : Fin 256) : val_main_v113 (F := Ideal) x0 x1 x2 x3 x4 x5 x6 x7 x8 x9 x10 x11 x12 x13 x14 x15 x16 x17 x22 x23 (ix2 p k) = n.c1 p k := by
  have e := row_at A
  pointwise [val_main_v113, val_main_v112, val_main_v111, val_main_v110, val_main_v109, val_main_v108, val_main_cst_15, val_main_call2_cst, val_main_call2_v0, val_main_call2_v1, val_main_call2_v2, val_main_call2_v3, val_main_call2_v4]
  simp only [e, A.Wc1, A.bc1]
  have es : ∑ x : Fin 2560, n.row ⟨p.val * 8 + x.val / 320, by omega⟩ ⟨x.val % 320, by omega⟩ * n.Wc1 x k
      = ∑ q : Fin 8, ∑ d : Fin 320, n.row ⟨8 * p + q, by omega⟩ d * n.Wc1 ⟨320 * q + d, by omega⟩ k := by
    rw [← sum_pack]
    refine Finset.sum_congr rfl fun q _ => Finset.sum_congr rfl fun d _ => ?_
    congr 2 <;> apply Fin.ext <;> simp only <;> omega
  exact congrArg (fun s => leaky (s + n.bc1 k)) es

theorem c2_at (p : Fin 512) (k : Fin 256) : val_main_v118 (F := Ideal) x0 x1 x2 x3 x4 x5 x6 x7 x8 x9 x10 x11 x12 x13 x14 x15 x16 x17 x18 x19 x22 x23 (ix2 p k) = n.c2 p k := by
  have e := c1_at A p
  pointwise [val_main_v118, val_main_v117, val_main_v116, val_main_v115, val_main_v114, val_main_cst_16, val_main_call3_cst, val_main_call3_v0, val_main_call3_v1, val_main_call3_v2, val_main_call3_v3, val_main_call3_v4]
  simp only [e, A.Wc2, A.bc2]
  rfl

theorem score_at (p : Fin 512) : val_main_v122 (F := Ideal) x0 x1 x2 x3 x4 x5 x6 x7 x8 x9 x10 x11 x12 x13 x14 x15 x16 x17 x18 x19 x20 x21 x22 x23 (ix2 p 0) = n.score p := by
  have e := c2_at A p
  pointwise [val_main_v122, val_main_v121, val_main_v120, val_main_v119]
  simp only [e, A.Wo, A.bo]
  rfl

end Cert.Proof.RefValue
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Equation
public import proofs.«01_k».proof.Proof.RefValue
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- At reals the kernel and the reference leave the same two arrays. -/
theorem algebraic : @Cert.algebraic_KernelIdeal_ReferenceIdeal Cert.KernelIdeal.Gen.facts Cert.ReferenceIdeal.Gen.facts := by
  intro m g m' g' _ hagree
  have args : ∀ c, RefValue.Args (Host.net m c) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) := fun c => by
    obtain ⟨e0, e1, e2, e3, e4, e5, e6, e7, e8, e9, e10, e11, e12, e13, e14, e15, e16, e17, e18, e19, e20, e21, e22, e23⟩ := hagree c
    rw [e0, e1, e2, e3, e4, e5, e6, e7, e8, e9, e10, e11, e12, e13, e14, e15, e16, e17, e18, e19, e20, e21, e22, e23]
    constructor <;> intros <;> rfl
  refine ⟨fun c => fun i : Cert.KernelIdeal.S4096x320.Idx => (Host.net m c).row (i 0) (i 1), fun c => fun i : Cert.KernelIdeal.S512x1.Idx => (Host.net m c).score (i 0), ?_, ?_⟩
  · refine (θ_run _ _ _).mono (fun r h c => ?_) (Cert.KernelIdeal.Value.run_blocks m g)
    exact ⟨(h c).1.trans (Equation.rows_eq m c), (h c).2.1.trans (Equation.scores_eq m c), (h c).2.2⟩
  · refine (θ_run _ _ _).mono (fun r h c => ?_) (Cert.ReferenceIdeal.Value.run m' g')
    refine ⟨((h c).1.trans (Cert.ReferenceIdeal.Read.val_main_v107_eq (StableHlo.launchContents m' c))).trans ?_, ((h c).2.1.trans (Cert.ReferenceIdeal.Read.val_main_v122_eq (StableHlo.launchContents m' c))).trans ?_, (h c).2.2⟩
    · funext i
      obtain ⟨b, d, rfl⟩ : ∃ (b : Fin 4096) (d : Fin 320), i = (ix2 b d : Cert.ReferenceIdeal.S4096x320.Idx) :=
        ⟨i 0, i 1, by funext a; match a with | ⟨0, _⟩ => rfl | ⟨1, _⟩ => rfl⟩
      exact RefValue.row_at (args c) b d
    · funext i
      obtain ⟨p, rfl⟩ : ∃ p : Fin 512, i = (ix2 p 0 : Cert.ReferenceIdeal.S512x1.Idx) :=
        ⟨i 0, by funext a; match a with | ⟨0, _⟩ => rfl | ⟨1, _⟩ => exact Subsingleton.elim (α := Fin 1) _ _⟩
      exact RefValue.score_at (args c) p

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run _ _ _).mono (fun r h => ⟨fun c => (h c).2.2, sem_eq_zero_of_no_sems (by decide) r.2⟩) (Cert.ReferenceIdeal.Value.run m ρ),
  trivial, algebraic⟩

end Cert.Proof

end
